-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x4096x128 : Shape := ⟨3, ![1, 4096, 128]⟩
abbrev S1x8192 : Shape := ⟨2, ![1, 8192]⟩
abbrev S3x1x4096x4096 : Shape := ⟨4, ![3, 1, 4096, 4096]⟩
abbrev S_ : Shape := ⟨0, ![]⟩
abbrev S1x4096 : Shape := ⟨2, ![1, 4096]⟩
abbrev S3x128x64 : Shape := ⟨3, ![3, 128, 64]⟩
abbrev S3x64 : Shape := ⟨2, ![3, 64]⟩
abbrev S3 : Shape := ⟨1, ![3]⟩
abbrev S64x32 : Shape := ⟨2, ![64, 32]⟩
abbrev S32 : Shape := ⟨1, ![32]⟩
abbrev S64x64 : Shape := ⟨2, ![64, 64]⟩

class Facts : Prop where
  bcast_S_S1x4096x128 : S_.BroadcastsInDim S1x4096x128 (![] : Fin 0 → Fin S1x4096x128.rank)
  bcast_S_S3x1x4096x4096 : S_.BroadcastsInDim S3x1x4096x4096 (![] : Fin 0 → Fin S3x1x4096x4096.rank)
  bcast_S_S3x128x64 : S_.BroadcastsInDim S3x128x64 (![] : Fin 0 → Fin S3x128x64.rank)
  bcast_S_S3x64 : S_.BroadcastsInDim S3x64 (![] : Fin 0 → Fin S3x64.rank)
  bcast_S_S3 : S_.BroadcastsInDim S3 (![] : Fin 0 → Fin S3.rank)
  bcast_S_S32 : S_.BroadcastsInDim S32 (![] : Fin 0 → Fin S32.rank)
  bcast_S_S64x64 : S_.BroadcastsInDim S64x64 (![] : Fin 0 → Fin S64x64.rank)

variable [Facts]

def fn_part1 {F : FTy → Type} [FloatOps F] (main_arg13 : FVec F S32 .f32) (main_arg14 : FVec F S64x64 .f32) (main_v2 : IVec S1x4096x128 1) (main_v5 : IVec S1x4096x128 1) (main_v8 : IVec S3x1x4096x4096 1) (main_v11 : IVec S3x128x64 1) (main_v14 : IVec S3x64 1) (main_v17 : IVec S3 1) : IVec S1x4096x128 1 × IVec S1x4096x128 1 × IVec S3x1x4096x4096 1 × IVec S3x128x64 1 × IVec S3x64 1 × IVec S3 1 × IVec S32 1 × IVec S64x64 1 :=
  let main_v18 : FVec F S32 .f32 := Host.absf main_arg13
  let main_cst_5 : FVec F S_ .f32 := constant S_ .f32 0x7F800000#32
  let main_v19 : FVec F S32 .f32 := broadcastInDim S32 ![] bcast_S_S32 main_cst_5
  let main_v20 : IVec S32 1 := cmpf .olt main_v18 main_v19
  let main_v21 : FVec F S64x64 .f32 := Host.absf main_arg14
  let main_cst_6 : FVec F S_ .f32 := constant S_ .f32 0x7F800000#32
  let main_v22 : FVec F S64x64 .f32 := broadcastInDim S64x64 ![] bcast_S_S64x64 main_cst_6
  let main_v23 : IVec S64x64 1 := cmpf .olt main_v21 main_v22
  (main_v2, main_v5, main_v8, main_v11, main_v14, main_v17, main_v20, main_v23)

def fn {F : FTy → Type} [FloatOps F] (main_arg0 : FVec F S1x4096x128 .f32) (main_arg1 : FVec F S1x4096x128 .f32) (main_arg2 : FVec F S1x8192 .f32) (main_arg3 : FVec F S3x1x4096x4096 .f32) (main_arg4 : IVec S_ 1) (main_arg5 : FVec F S1x4096 .f32) (main_arg6 : FVec F S1x4096 .f32) (main_arg7 : FVec F S1x4096 .f32) (main_arg8 : FVec F S3x128x64 .f32) (main_arg9 : FVec F S3x64 .f32) (main_arg10 : FVec F S3 .f32) (main_arg11 : FVec F S64x32 .f32) (main_arg12 : FVec F S32 .f32) (main_arg13 : FVec F S32 .f32) (main_arg14 : FVec F S64x64 .f32) (main_arg15 : FVec F S_ .f32) : IVec S1x4096x128 1 × IVec S1x4096x128 1 × IVec S3x1x4096x4096 1 × IVec S3x128x64 1 × IVec S3x64 1 × IVec S3 1 × IVec S32 1 × IVec S64x64 1 :=
  let main_v0 : FVec F S1x4096x128 .f32 := Host.absf main_arg0
  let main_cst : FVec F S_ .f32 := constant S_ .f32 0x7F800000#32
  let main_v1 : FVec F S1x4096x128 .f32 := broadcastInDim S1x4096x128 ![] bcast_S_S1x4096x128 main_cst
  let main_v2 : IVec S1x4096x128 1 := cmpf .olt main_v0 main_v1
  let main_v3 : FVec F S1x4096x128 .f32 := Host.absf main_arg1
  let main_cst_0 : FVec F S_ .f32 := constant S_ .f32 0x7F800000#32
  let main_v4 : FVec F S1x4096x128 .f32 := broadcastInDim S1x4096x128 ![] bcast_S_S1x4096x128 main_cst_0
  let main_v5 : IVec S1x4096x128 1 := cmpf .olt main_v3 main_v4
  let main_v6 : FVec F S3x1x4096x4096 .f32 := Host.absf main_arg3
  let main_cst_1 : FVec F S_ .f32 := constant S_ .f32 0x7F800000#32
  let main_v7 : FVec F S3x1x4096x4096 .f32 := broadcastInDim S3x1x4096x4096 ![] bcast_S_S3x1x4096x4096 main_cst_1
  let main_v8 : IVec S3x1x4096x4096 1 := cmpf .olt main_v6 main_v7
  let main_v9 : FVec F S3x128x64 .f32 := Host.absf main_arg8
  let main_cst_2 : FVec F S_ .f32 := constant S_ .f32 0x7F800000#32
  let main_v10 : FVec F S3x128x64 .f32 := broadcastInDim S3x128x64 ![] bcast_S_S3x128x64 main_cst_2
  let main_v11 : IVec S3x128x64 1 := cmpf .olt main_v9 main_v10
  let main_v12 : FVec F S3x64 .f32 := Host.absf main_arg9
  let main_cst_3 : FVec F S_ .f32 := constant S_ .f32 0x7F800000#32
  let main_v13 : FVec F S3x64 .f32 := broadcastInDim S3x64 ![] bcast_S_S3x64 main_cst_3
  let main_v14 : IVec S3x64 1 := cmpf .olt main_v12 main_v13
  let main_v15 : FVec F S3 .f32 := Host.absf main_arg10
  let main_cst_4 : FVec F S_ .f32 := constant S_ .f32 0x7F800000#32
  let main_v16 : FVec F S3 .f32 := broadcastInDim S3 ![] bcast_S_S3 main_cst_4
  let main_v17 : IVec S3 1 := cmpf .olt main_v15 main_v16
  fn_part1 (F := F) main_arg13 main_arg14 main_v2 main_v5 main_v8 main_v11 main_v14 main_v17
-- ==== Kernel.lean ====
abbrev S1x4096x128 : Shape := ⟨3, ![1, 4096, 128]⟩
abbrev S1x8192 : Shape := ⟨2, ![1, 8192]⟩
abbrev S3x1x4096x4096 : Shape := ⟨4, ![3, 1, 4096, 4096]⟩
abbrev S_ : Shape := ⟨0, ![]⟩
abbrev S1x4096 : Shape := ⟨2, ![1, 4096]⟩
abbrev S3x128x64 : Shape := ⟨3, ![3, 128, 64]⟩
abbrev S3x64 : Shape := ⟨2, ![3, 64]⟩
abbrev S3 : Shape := ⟨1, ![3]⟩
abbrev S64x32 : Shape := ⟨2, ![64, 32]⟩
abbrev S32 : Shape := ⟨1, ![32]⟩
abbrev S64x64 : Shape := ⟨2, ![64, 64]⟩
abbrev S3x1x64 : Shape := ⟨3, ![3, 1, 64]⟩
abbrev S3x1x1 : Shape := ⟨3, ![3, 1, 1]⟩
abbrev S32x128 : Shape := ⟨2, ![32, 128]⟩
abbrev S1x32 : Shape := ⟨2, ![1, 32]⟩
abbrev S1x1 : Shape := ⟨2, ![1, 1]⟩
abbrev S3x4096x64 : Shape := ⟨3, ![3, 4096, 64]⟩
abbrev S1x1x1024x1024 : Shape := ⟨4, ![1, 1, 1024, 1024]⟩
abbrev S1x128x64 : Shape := ⟨3, ![1, 128, 64]⟩
abbrev S1x1x64 : Shape := ⟨3, ![1, 1, 64]⟩
abbrev S1x1024x64 : Shape := ⟨3, ![1, 1024, 64]⟩
abbrev S4096x64 : Shape := ⟨2, ![4096, 64]⟩
abbrev S3x1x32 : Shape := ⟨3, ![3, 1, 32]⟩
abbrev S128x64 : Shape := ⟨2, ![128, 64]⟩
abbrev S4096x128 : Shape := ⟨2, ![4096, 128]⟩
abbrev S1x64 : Shape := ⟨2, ![1, 64]⟩
abbrev S1024x1024 : Shape := ⟨2, ![1024, 1024]⟩
abbrev S1024x64 : Shape := ⟨2, ![1024, 64]⟩
abbrev S1024x32 : Shape := ⟨2, ![1024, 32]⟩
abbrev S1x1x32 : Shape := ⟨3, ![1, 1, 32]⟩
abbrev S1 : Shape := ⟨1, ![1]⟩
abbrev S1x1x1 : Shape := ⟨3, ![1, 1, 1]⟩
abbrev S1x4096x64 : Shape := ⟨3, ![1, 4096, 64]⟩
abbrev S1x1x4096 : Shape := ⟨3, ![1, 1, 4096]⟩
abbrev S64x1 : Shape := ⟨2, ![64, 1]⟩
abbrev S64x2 : Shape := ⟨2, ![64, 2]⟩
abbrev S4096x2 : Shape := ⟨2, ![4096, 2]⟩
abbrev S4096x1 : Shape := ⟨2, ![4096, 1]⟩
abbrev S1x32x128 : Shape := ⟨3, ![1, 32, 128]⟩

abbrev nBuf : Space → Nat
  | .hbm => 32
  | .vmem => 35
  | .smem => 0
  | _ => 0

abbrev bufTy : (tb : Table) → Fin (tcTables nBuf tb) → BufTy
  | .hbm, ⟨0, _⟩ => ⟨S1x4096x128, .f32⟩
  | .hbm, ⟨1, _⟩ => ⟨S1x4096x128, .f32⟩
  | .hbm, ⟨2, _⟩ => ⟨S1x8192, .f32⟩
  | .hbm, ⟨3, _⟩ => ⟨S3x1x4096x4096, .f32⟩
  | .hbm, ⟨4, _⟩ => ⟨S_, .i1⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S3x128x64, .f32⟩
  | .hbm, ⟨9, _⟩ => ⟨S3x64, .f32⟩
  | .hbm, ⟨10, _⟩ => ⟨S3, .f32⟩
  | .hbm, ⟨11, _⟩ => ⟨S64x32, .f32⟩
  | .hbm, ⟨12, _⟩ => ⟨S32, .f32⟩
  | .hbm, ⟨13, _⟩ => ⟨S32, .f32⟩
  | .hbm, ⟨14, _⟩ => ⟨S64x64, .f32⟩
  | .hbm, ⟨15, _⟩ => ⟨S_, .f32⟩
  | .hbm, ⟨16, _⟩ => ⟨S3x1x64, .f32⟩
  | .hbm, ⟨17, _⟩ => ⟨S3x1x1, .f32⟩
  | .hbm, ⟨18, _⟩ => ⟨S3x1x64, .f32⟩
  | .hbm, ⟨19, _⟩ => ⟨S32x128, .f32⟩
  | .hbm, ⟨20, _⟩ => ⟨S32x128, .f32⟩
  | .hbm, ⟨21, _⟩ => ⟨S1x4096, .f32⟩
  | .hbm, ⟨22, _⟩ => ⟨S32x128, .f32⟩
  | .hbm, ⟨23, _⟩ => ⟨S1x4096, .f32⟩
  | .hbm, ⟨24, _⟩ => ⟨S32x128, .f32⟩
  | .hbm, ⟨25, _⟩ => ⟨S1x32, .f32⟩
  | .hbm, ⟨26, _⟩ => ⟨S1x32, .f32⟩
  | .hbm, ⟨27, _⟩ => ⟨S64x64, .f32⟩
  | .hbm, ⟨28, _⟩ => ⟨S1x1, .f32⟩
  | .hbm, ⟨29, _⟩ => ⟨S3x4096x64, .f32⟩
  | .hbm, ⟨30, _⟩ => ⟨S1x1, .f32⟩
  | .hbm, ⟨31, _⟩ => ⟨S_, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x4096x128, .f32⟩
  | .local _ .vmem, ⟨9, _⟩ => ⟨S1x4096x128, .f32⟩
  | .local _ .vmem, ⟨10, _⟩ => ⟨S1x128x64, .f32⟩
  | .local _ .vmem, ⟨11, _⟩ => ⟨S1x128x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S1x4096, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | .local _ .vmem, ⟨20, _⟩ => ⟨S32x128, .f32⟩
  | .local _ .vmem, ⟨21, _⟩ => ⟨S64x32, .f32⟩
  | .local _ .vmem, ⟨22, _⟩ => ⟨S1x32, .f32⟩
  | .local _ .vmem, ⟨23, _⟩ => ⟨S1x32, .f32⟩
  | .local _ .vmem, ⟨24, _⟩ => ⟨S64x64, .f32⟩
  | .local _ .vmem, ⟨25, _⟩ => ⟨S1x1, .f32⟩
  | .local _ .vmem, ⟨26, _⟩ => ⟨S1x1024x64, .f32⟩
  | .local _ .vmem, ⟨27, _⟩ => ⟨S1x1024x64, .f32⟩
  | .local _ .vmem, ⟨28, _⟩ => ⟨S1x1, .f32⟩
  | .local _ .vmem, ⟨29, _⟩ => ⟨S4096x64, .bf16⟩
  | .local _ .vmem, ⟨30, _⟩ => ⟨S4096x64, .bf16⟩
  | .local _ .vmem, ⟨31, _⟩ => ⟨S3x4096x64, .bf16⟩
  | .local _ .vmem, ⟨32, _⟩ => ⟨S3x4096x64, .bf16⟩
  | .local _ .vmem, ⟨33, _⟩ => ⟨S3x1x32, .f32⟩
  | .local _ .vmem, ⟨34, _⟩ => ⟨S3x1x32, .f32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27
abbrev cc0_sem20_0 : DmaSem sig := 28

abbrev nD : Nat := 1
abbrev τ : Topo := Topo.v7x

variable {F : FTy → Type} [FloatOps F]

abbrev grid0 : Pipeline.Grid := ⟨2, ![3, 4], ![false, false]⟩

def k0_off1 (i : grid0.Coords) : Fin 3 → Nat :=
  let arg0 : BitVec 32 := BitVec.ofNat 32 (i 0).val
  let v72 : Index := Scalar.indexCast arg0
  let arg1 : BitVec 32 := BitVec.ofNat 32 (i 1).val
  let c1024_i32 : BitVec 32 := 1024#32
  let v71 : BitVec 32 := Scalar.muli arg1 c1024_i32
  let v73 : Index := Scalar.indexCast v71
  let c0_54 : Index := 0#32
  ![v72.toNat, v73.toNat, 0]
def k0_off2 (i : grid0.Coords) : Fin 3 → Nat :=
  let arg0 : BitVec 32 := BitVec.ofNat 32 (i 0).val
  let v92 : Index := Scalar.indexCast arg0
  let c0_59 : Index := 0#32
  let c0_60 : Index := 0#32
  ![v92.toNat, 0, 0]
def k0_cond3 (i : grid0.Coords) : BitVec 1 :=
  let arg0 : BitVec 32 := BitVec.ofNat 32 (i 0).val
  let c2_i32 : BitVec 32 := 2#32
  let v112 : BitVec 1 := Scalar.cmpi .eq arg0 c2_i32
  let arg1 : BitVec 32 := BitVec.ofNat 32 (i 1).val
  let c3_i32 : BitVec 32 := 3#32
  let v113 : BitVec 1 := Scalar.cmpi .eq arg1 c3_i32
  let v114 : BitVec 1 := Scalar.andi v112 v113
  let v115 : BitVec 32 := Scalar.extui v114
  let c0_i32_69 : BitVec 32 := 0#32
  let v116 : BitVec 1 := Scalar.cmpi .ne v115 c0_i32_69
  v116

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, arg1.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, arg1.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x1024x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== ReferenceIdeal.lean ====
abbrev S1x4096x128 : Shape := ⟨3, ![1, 4096, 128]⟩
abbrev S1x8192 : Shape := ⟨2, ![1, 8192]⟩
abbrev S3x1x4096x4096 : Shape := ⟨4, ![3, 1, 4096, 4096]⟩
abbrev S_ : Shape := ⟨0, ![]⟩
abbrev S1x4096 : Shape := ⟨2, ![1, 4096]⟩
abbrev S3x128x64 : Shape := ⟨3, ![3, 128, 64]⟩
abbrev S3x64 : Shape := ⟨2, ![3, 64]⟩
abbrev S3 : Shape := ⟨1, ![3]⟩
abbrev S64x32 : Shape := ⟨2, ![64, 32]⟩
abbrev S32 : Shape := ⟨1, ![32]⟩
abbrev S64x64 : Shape := ⟨2, ![64, 64]⟩
abbrev S4096x128 : Shape := ⟨2, ![4096, 128]⟩
abbrev S3x64x4096 : Shape := ⟨3, ![3, 64, 4096]⟩
abbrev S3x4096x64 : Shape := ⟨3, ![3, 4096, 64]⟩
abbrev S3x4096x4096 : Shape := ⟨3, ![3, 4096, 4096]⟩
abbrev S3x1x64 : Shape := ⟨3, ![3, 1, 64]⟩
abbrev S3x1x1 : Shape := ⟨3, ![3, 1, 1]⟩
abbrev S3x4096x32 : Shape := ⟨3, ![3, 4096, 32]⟩
abbrev S1x1x32 : Shape := ⟨3, ![1, 1, 32]⟩
abbrev S3x4096 : Shape := ⟨2, ![3, 4096]⟩
abbrev S1 : Shape := ⟨1, ![1]⟩
abbrev S4096x64 : Shape := ⟨2, ![4096, 64]⟩
abbrev S4096 : Shape := ⟨1, ![4096]⟩
abbrev S4096x1 : Shape := ⟨2, ![4096, 1]⟩
abbrev S64 : Shape := ⟨1, ![64]⟩

abbrev nBuf : Space → Nat
  | .hbm => 149
  | .vmem => 0
  | .smem => 0
  | _ => 0

abbrev hbmTy0_0 (i : Nat) : BufTy := match i % 128 with
  | 0 => ⟨S1x4096x128, .f32⟩
  | 1 => ⟨S1x4096x128, .f32⟩
  | 2 => ⟨S1x8192, .f32⟩
  | 3 => ⟨S3x1x4096x4096, .f32⟩
  | 4 => ⟨S_, .i1⟩
  | 5 => ⟨S1x4096, .f32⟩
  | 6 => ⟨S1x4096, .f32⟩
  | 7 => ⟨S1x4096, .f32⟩
  | 8 => ⟨S3x128x64, .f32⟩
  | 9 => ⟨S3x64, .f32⟩
  | 10 => ⟨S3, .f32⟩
  | 11 => ⟨S64x32, .f32⟩
  | 12 => ⟨S32, .f32⟩
  | 13 => ⟨S32, .f32⟩
  | 14 => ⟨S64x64, .f32⟩
  | 15 => ⟨S_, .f32⟩
  | 16 => ⟨S4096x128, .f32⟩
  | 17 => ⟨S3x64x4096, .f32⟩
  | 18 => ⟨S3x4096x64, .f32⟩
  | 19 => ⟨S3x4096x4096, .f32⟩
  | 20 => ⟨S3x4096x64, .f32⟩
  | 21 => ⟨S3x1x64, .f32⟩
  | 22 => ⟨S3x4096x64, .f32⟩
  | 23 => ⟨S3x4096x64, .f32⟩
  | 24 => ⟨S_, .f32⟩
  | 25 => ⟨S3x4096x64, .f32⟩
  | 26 => ⟨S3x4096x64, .i1⟩
  | 27 => ⟨S3x1x1, .f32⟩
  | 28 => ⟨S3x4096x64, .f32⟩
  | 29 => ⟨S3x4096x64, .f32⟩
  | 30 => ⟨S3x4096x64, .f32⟩
  | 31 => ⟨S3x4096x32, .f32⟩
  | 32 => ⟨S1x1x32, .f32⟩
  | 33 => ⟨S3x4096x32, .f32⟩
  | 34 => ⟨S3x4096x32, .f32⟩
  | 35 => ⟨S3x4096x32, .f32⟩
  | 36 => ⟨S3x4096, .f32⟩
  | 37 => ⟨S_, .f32⟩
  | 38 => ⟨S3, .f32⟩
  | 39 => ⟨S_, .f32⟩
  | 40 => ⟨S3, .f32⟩
  | 41 => ⟨S3, .f32⟩
  | 42 => ⟨S_, .f32⟩
  | 43 => ⟨S_, .f32⟩
  | 44 => ⟨S_, .f32⟩
  | 45 => ⟨S_, .f32⟩
  | 46 => ⟨S1, .f32⟩
  | 47 => ⟨S3, .f32⟩
  | 48 => ⟨S3, .f32⟩
  | 49 => ⟨S3, .f32⟩
  | 50 => ⟨S_, .f32⟩
  | 51 => ⟨S_, .f32⟩
  | 52 => ⟨S1, .f32⟩
  | 53 => ⟨S3, .f32⟩
  | 54 => ⟨S3, .f32⟩
  | 55 => ⟨S3x1x1, .f32⟩
  | 56 => ⟨S3x4096x64, .f32⟩
  | 57 => ⟨S3x4096x64, .f32⟩
  | 58 => ⟨S_, .f32⟩
  | 59 => ⟨S4096x64, .f32⟩
  | 60 => ⟨S4096, .f32⟩
  | 61 => ⟨S4096x1, .f32⟩
  | 62 => ⟨S4096x64, .f32⟩
  | 63 => ⟨S4096x64, .f32⟩
  | 64 => ⟨S_, .f32⟩
  | 65 => ⟨S64, .f32⟩
  | 66 => ⟨S_, .f32⟩
  | 67 => ⟨S_, .f32⟩
  | 68 => ⟨S64, .f32⟩
  | 69 => ⟨S64, .f32⟩
  | 70 => ⟨S64, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S4096x128, .f32⟩
  | 79 => ⟨S3x64x4096, .f32⟩
  | 80 => ⟨S3x4096x64, .f32⟩
  | 81 => ⟨S3x4096x4096, .f32⟩
  | 82 => ⟨S3x4096x64, .f32⟩
  | 83 => ⟨S3x1x64, .f32⟩
  | 84 => ⟨S3x4096x64, .f32⟩
  | 85 => ⟨S3x4096x64, .f32⟩
  | 86 => ⟨S_, .f32⟩
  | 87 => ⟨S3x4096x64, .f32⟩
  | 88 => ⟨S3x4096x64, .i1⟩
  | 89 => ⟨S3x1x1, .f32⟩
  | 90 => ⟨S3x4096x64, .f32⟩
  | 91 => ⟨S3x4096x64, .f32⟩
  | 92 => ⟨S3x4096x64, .f32⟩
  | 93 => ⟨S3x4096x32, .f32⟩
  | 94 => ⟨S1x1x32, .f32⟩
  | 95 => ⟨S3x4096x32, .f32⟩
  | 96 => ⟨S3x4096x32, .f32⟩
  | 97 => ⟨S3x4096x32, .f32⟩
  | 98 => ⟨S3x4096, .f32⟩
  | 99 => ⟨S_, .f32⟩
  | 100 => ⟨S3, .f32⟩
  | 101 => ⟨S_, .f32⟩
  | 102 => ⟨S3, .f32⟩
  | 103 => ⟨S3, .f32⟩
  | 104 => ⟨S_, .f32⟩
  | 105 => ⟨S_, .f32⟩
  | 106 => ⟨S_, .f32⟩
  | 107 => ⟨S_, .f32⟩
  | 108 => ⟨S1, .f32⟩
  | 109 => ⟨S3, .f32⟩
  | 110 => ⟨S3, .f32⟩
  | 111 => ⟨S3, .f32⟩
  | 112 => ⟨S_, .f32⟩
  | 113 => ⟨S_, .f32⟩
  | 114 => ⟨S1, .f32⟩
  | 115 => ⟨S3, .f32⟩
  | 116 => ⟨S3, .f32⟩
  | 117 => ⟨S3x1x1, .f32⟩
  | 118 => ⟨S3x4096x64, .f32⟩
  | 119 => ⟨S3x4096x64, .f32⟩
  | 120 => ⟨S_, .f32⟩
  | 121 => ⟨S4096x64, .f32⟩
  | 122 => ⟨S4096x64, .f32⟩
  | 123 => ⟨S4096, .f32⟩
  | 124 => ⟨S4096, .f32⟩
  | 125 => ⟨S4096, .f32⟩
  | 126 => ⟨S4096x64, .f32⟩
  | 127 => ⟨S4096, .f32⟩
  | _ => ⟨S1x4096x128, .f32⟩

abbrev hbmTy0_1 (i : Nat) : BufTy := match i % 128 with
  | 0 => ⟨S4096, .f32⟩
  | 1 => ⟨S4096, .f32⟩
  | 2 => ⟨S1x4096, .f32⟩
  | 3 => ⟨S1x4096, .f32⟩
  | 4 => ⟨S1x4096, .f32⟩
  | 5 => ⟨S1x4096, .f32⟩
  | 6 => ⟨S1x8192, .f32⟩
  | 7 => ⟨S_, .f32⟩
  | 8 => ⟨S1x8192, .f32⟩
  | 9 => ⟨S1x8192, .f32⟩
  | 10 => ⟨S1x8192, .f32⟩
  | 11 => ⟨S1x8192, .f32⟩
  | 12 => ⟨S1x8192, .f32⟩
  | 13 => ⟨S1x8192, .f32⟩
  | 14 => ⟨S1x8192, .f32⟩
  | 15 => ⟨S1x8192, .f32⟩
  | 16 => ⟨S1x8192, .f32⟩
  | 17 => ⟨S_, .f32⟩
  | 18 => ⟨S_, .f32⟩
  | 19 => ⟨S_, .f32⟩
  | 20 => ⟨S_, .f32⟩
  | _ => ⟨S1x4096x128, .f32⟩

abbrev hbmTy (i : Nat) : BufTy := match i / 128 with
  | 0 => hbmTy0_0 i
  | 1 => hbmTy0_1 i
  | _ => ⟨S1x4096x128, .f32⟩

abbrev bufTy : (tb : Table) → Fin (tcTables nBuf tb) → BufTy
  | .hbm, ⟨i, _⟩ => hbmTy i
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_11 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_17 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_18 : Ref sig .tc := ⟨.hbm, 145, rfl⟩
abbrev main_v110 : Ref sig .tc := ⟨.hbm, 146, rfl⟩
abbrev main_cst_19 : Ref sig .tc := ⟨.hbm, 147, rfl⟩
abbrev main_v111 : Ref sig .tc := ⟨.hbm, 148, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.VecWindow

/-! The kernel body as a function of values: what one grid point reads, what it leaves in each buffer, and the
    proof that the body does so, in the four combinations of its three conditional blocks. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Values -/

/-- What the nineteen input windows hold at a point. -/
structure Ins (F : FTy → Type) [FloatOps F] where
  x0 : Vec F S1x1x1024x1024 .f32
  x1 : Vec F S1x1x1024x1024 .f32
  x2 : Vec F S1x1x1024x1024 .f32
  x3 : Vec F S1x1x1024x1024 .f32
  x4 : Vec F S1x4096x128 .f32
  x5 : Vec F S1x4096x128 .f32
  x6 : Vec F S1x128x64 .f32
  x7 : Vec F S1x1x64 .f32
  x8 : Vec F S1x1x64 .f32
  x9 : Vec F S1x4096 .f32
  x10 : Vec F S32x128 .f32
  x11 : Vec F S32x128 .f32
  x12 : Vec F S32x128 .f32
  x13 : Vec F S32x128 .f32
  x14 : Vec F S64x32 .f32
  x15 : Vec F S1x32 .f32
  x16 : Vec F S1x32 .f32
  x17 : Vec F S64x64 .f32
  x18 : Vec F S1x1 .f32

/-- What the six scratch buffers hold: the two projected feature matrices of the current view, the rows stored so far of
    the hidden states of both, and the partial column sums of both. -/
structure St (F : FTy → Type) [FloatOps F] where
  f1 : Vec F S4096x64 .bf16
  f2 : Vec F S4096x64 .bf16
  h1 : Vec F S3x4096x64 .bf16
  h2 : Vec F S3x4096x64 .bf16
  t1 : Vec F S3x1x32 .f32
  t2 : Vec F S3x1x32 .f32

/-- The buffers the body is called on. -/
structure Mem where
  a0 : Memref sig .tc .vmem S1x1x1024x1024 .f32
  w0 : a0.IsWhole
  a1 : Memref sig .tc .vmem S1x1x1024x1024 .f32
  w1 : a1.IsWhole
  a2 : Memref sig .tc .vmem S1x1x1024x1024 .f32
  w2 : a2.IsWhole
  a3 : Memref sig .tc .vmem S1x1x1024x1024 .f32
  w3 : a3.IsWhole
  a4 : Memref sig .tc .vmem S1x4096x128 .f32
  w4 : a4.IsWhole
  a5 : Memref sig .tc .vmem S1x4096x128 .f32
  w5 : a5.IsWhole
  a6 : Memref sig .tc .vmem S1x128x64 .f32
  w6 : a6.IsWhole
  a7 : Memref sig .tc .vmem S1x1x64 .f32
  w7 : a7.IsWhole
  a8 : Memref sig .tc .vmem S1x1x64 .f32
  w8 : a8.IsWhole
  a9 : Memref sig .tc .vmem S1x4096 .f32
  w9 : a9.IsWhole
  a10 : Memref sig .tc .vmem S32x128 .f32
  w10 : a10.IsWhole
  a11 : Memref sig .tc .vmem S32x128 .f32
  w11 : a11.IsWhole
  a12 : Memref sig .tc .vmem S32x128 .f32
  w12 : a12.IsWhole
  a13 : Memref sig .tc .vmem S32x128 .f32
  w13 : a13.IsWhole
  a14 : Memref sig .tc .vmem S64x32 .f32
  w14 : a14.IsWhole
  a15 : Memref sig .tc .vmem S1x32 .f32
  w15 : a15.IsWhole
  a16 : Memref sig .tc .vmem S1x32 .f32
  w16 : a16.IsWhole
  a17 : Memref sig .tc .vmem S64x64 .f32
  w17 : a17.IsWhole
  a18 : Memref sig .tc .vmem S1x1 .f32
  w18 : a18.IsWhole
  a19 : Memref sig .tc .vmem S1x1024x64 .f32
  w19 : a19.IsWhole
  a20 : Memref sig .tc .vmem S1x1 .f32
  w20 : a20.IsWhole
  a21 : Memref sig .tc .vmem S4096x64 .bf16
  w21 : a21.IsWhole
  a22 : Memref sig .tc .vmem S4096x64 .bf16
  w22 : a22.IsWhole
  a23 : Memref sig .tc .vmem S3x4096x64 .bf16
  w23 : a23.IsWhole
  a24 : Memref sig .tc .vmem S3x4096x64 .bf16
  w24 : a24.IsWhole
  a25 : Memref sig .tc .vmem S3x1x32 .f32
  w25 : a25.IsWhole
  a26 : Memref sig .tc .vmem S3x1x32 .f32
  w26 : a26.IsWhole

/-- The quarter of a feature matrix that starts at row `o`. -/
abbrev quarter (f : Vec F S4096x64 .bf16) (o : ℕ) (h : ∀ a, (![o, 0] : Fin 2 → ℕ) a + S1024x64.size a ≤ S4096x64.size a) :
    Vec F S1024x64 .bf16 := VecWindow.window f ![o, 0] S1024x64.size h

/-- The block of `adj * (seq1 * W) + b` a point computes, before the activation. -/
def y1 (x : Ins F) (f : Vec F S4096x64 .bf16) : FVec F S1024x64 .f32 :=
  k0_pay47 (k0_pay42 x.x7 x.x0 (quarter f 0 inb_S4096x64_S1024x64_0_0)) x.x1 (quarter f 1024 inb_S4096x64_S1024x64_1024_0)
    x.x2 (quarter f 2048 inb_S4096x64_S1024x64_2048_0) x.x3 (quarter f 3072 inb_S4096x64_S1024x64_3072_0)

/-- The same block for the second feature matrix. -/
def y2 (x : Ins F) (f : Vec F S4096x64 .bf16) : FVec F S1024x64 .f32 :=
  k0_pay48 (k0_pay43 x.x7 x.x0 (quarter f 0 inb_S4096x64_S1024x64_0_0)) x.x1 (quarter f 1024 inb_S4096x64_S1024x64_1024_0)
    x.x2 (quarter f 2048 inb_S4096x64_S1024x64_2048_0) x.x3 (quarter f 3072 inb_S4096x64_S1024x64_3072_0)

/-- Where the block is at least zero. -/
def g1 (x : Ins F) (f : Vec F S4096x64 .bf16) : IVec S1024x64 1 :=
  k0_pay49 (k0_pay42 x.x7 x.x0 (quarter f 0 inb_S4096x64_S1024x64_0_0)) x.x1 (quarter f 1024 inb_S4096x64_S1024x64_1024_0)
    x.x2 (quarter f 2048 inb_S4096x64_S1024x64_2048_0) x.x3 (quarter f 3072 inb_S4096x64_S1024x64_3072_0)

/-- The activation's slope, on every row. -/
def sl (x : Ins F) : FVec F S1024x64 .f32 := k0_pay50 (k0_pay39 x.x8)

/-- The block a point stores into the result of hidden states. -/
def blk (x : Ins F) (f : Vec F S4096x64 .bf16) : FVec F S1x1024x64 .f32 := k0_pay53 (y1 x f) (g1 x f) (sl x)

/-- The scratch buffers after a point that found the feature matrices, hidden states and sums of `s`. -/
def next (i : grid0.Coords) (x : Ins F) (s : St F) : St F where
  f1 := s.f1
  f2 := s.f2
  h1 := VecWindow.put s.h1 (k0_off1 i) S1x1024x64.size (k0_pay54 (y1 x s.f1) (g1 x s.f1) (sl x))
  h2 := VecWindow.put s.h2 (k0_off1 i) S1x1024x64.size (k0_pay55 (k0_pay39 x.x8) (y2 x s.f2))
  t1 := VecWindow.put s.t1 (k0_off2 i) S1x1x32.size
    (k0_pay57 x.x14 (k0_pay40 x.x15) (y1 x s.f1) (g1 x s.f1) (sl x) (VecWindow.window s.t1 (k0_off2 i) S1x1x32.size (k0_off2_inb i)))
  t2 := VecWindow.put s.t2 (k0_off2 i) S1x1x32.size
    (k0_pay1 (k0_pay56 (k0_pay39 x.x8) x.x14 (k0_pay40 x.x15) (y2 x s.f2)) (VecWindow.window s.t2 (k0_off2 i) S1x1x32.size (k0_off2_inb i)))

/-- The scratch buffers with the feature matrices of a new view. -/
def proj (x : Ins F) (s : St F) : St F := { s with f1 := k0_pay34 x.x6 x.x4, f2 := k0_pay35 x.x6 x.x5 }

/-- The scratch buffers with the sums set to zero. -/
def zero (s : St F) : St F := { s with t1 := k0_pay36, t2 := k0_pay37 }

/-- View `p` of the hidden states. -/
abbrev view (h : Vec F S3x4096x64 .bf16) (p : ℕ) (hp : ∀ a, (![p, 0, 0] : Fin 3 → ℕ) a + S1x4096x64.size a ≤ S3x4096x64.size a) :
    Vec F S1x4096x64 .bf16 := VecWindow.window h ![p, 0, 0] S1x4096x64.size hp

/-- Row `p` of the column sums. -/
abbrev rowT (t : Vec F S3x1x32 .f32) (p : ℕ) (hp : ∀ a, (![p, 0, 0] : Fin 3 → ℕ) a + S1x1x32.size a ≤ S3x1x32.size a) :
    Vec F S1x1x32 .f32 := VecWindow.window t ![p, 0, 0] S1x1x32.size hp

/-- The loss the last point computes from the complete scratch buffers. -/
def loss (x : Ins F) (s : St F) : FVec F S1x1 .f32 :=
  have a0 := k0_pay3 x.x16 (rowT s.t1 0 inb_S3x1x32_S1x1x32_0_0_0)
  have a1 := k0_pay4 x.x16 (rowT s.t1 1 inb_S3x1x32_S1x1x32_1_0_0)
  have a2 := k0_pay5 x.x16 (rowT s.t1 2 inb_S3x1x32_S1x1x32_2_0_0)
  have q := k0_pay2 x.x16
  have b0 := k0_pay6 x.x16 (rowT s.t2 0 inb_S3x1x32_S1x1x32_0_0_0)
  have r1 := rowT s.t2 1 inb_S3x1x32_S1x1x32_1_0_0
  have r2 := rowT s.t2 2 inb_S3x1x32_S1x1x32_2_0_0
  have h0 := view s.h1 0 inb_S3x4096x64_S1x4096x64_0_0_0
  have h1 := view s.h1 1 inb_S3x4096x64_S1x4096x64_1_0_0
  have h2 := view s.h1 2 inb_S3x4096x64_S1x4096x64_2_0_0
  have c := k0_pay27 (k0_pay14 a0 a1 a2) (k0_pay15 a0 a1 a2) (k0_pay16 a0 a1 a2) x.x9 (k0_pay26 x.x9) h0 h1 h2 x.x17
  have d := k0_pay28 (k0_pay14 a0 a1 a2) (k0_pay15 a0 a1 a2) (k0_pay16 a0 a1 a2) x.x9 (k0_pay26 x.x9) h0 h1 h2 x.x17 h0
  have p := k0_pay30 (k0_pay15 a0 a1 a2) (k0_pay16 a0 a1 a2) (k0_pay25 x.x18) c d (k0_pay29 h1) (constant S4096x2 .f32 0x00000000#32) h2 x.x10
  have n := k0_pay31 (k0_pay22 q b0 r1 r2) (k0_pay23 q b0 r1 r2) (k0_pay24 q b0 r1 r2) (k0_pay25 x.x18) c
    (view s.h2 0 inb_S3x4096x64_S1x4096x64_0_0_0) (view s.h2 1 inb_S3x4096x64_S1x4096x64_1_0_0) (view s.h2 2 inb_S3x4096x64_S1x4096x64_2_0_0)
  k0_pay32 p n x.x11 x.x12 x.x13

/-! ## Loads and stores as windows of the contents -/

section Views

variable {κ : Kind} {sp : Space} {u : Shape} {e : EltTy}

/-- A load is the window of what the buffer holds. -/
theorem load_window (v : View sig κ sp u e) (f : v.ty.Contents (Elt F)) {off size : Fin u.rank → ℕ} (inb : ∀ a, off a + size a ≤ u.size a) :
    v.readAt (Elt F) (Rect.unit off size inb).toLoadRect f = VecWindow.window (v.read (Elt F) f) off size inb := rfl

/-- A load of what earlier stores left is the window of it. -/
theorem cov_window (v : View sig κ sp u e) (L : List (View.Piece (Elt F) u e)) {off size : Fin u.rank → ℕ} (inb : ∀ a, off a + size a ≤ u.size a) :
    v.readCov L (Rect.unit off size inb).toLoadRect = VecWindow.window (v.read (Elt F) (v.writes (Elt F) v.junk L)) off size inb := rfl

/-- A store puts its value at its offsets. -/
theorem store_put (v : View sig κ sp u e) (f : v.ty.Contents (Elt F)) {off size : Fin u.rank → ℕ} (inb : ∀ a, off a + size a ≤ u.size a)
    (w : (Rect.unit off size inb).shape.Idx → Elt F e) (L : List (View.Piece (Elt F) u e)) :
    v.read (Elt F) (v.writes (Elt F) f (⟨Rect.unit off size inb, w⟩ :: L)) = VecWindow.put (v.read (Elt F) (v.writes (Elt F) f L)) off size w :=
  View.read_writes_cons_put v f inb w L rfl

/-- The window of everything is everything. -/
theorem window_all {α : Type} {s : Shape} (x : s.Idx → α) (off : Fin s.rank → ℕ) (h : ∀ a, off a = 0) (inb : ∀ a, off a + s.size a ≤ s.size a) :
    VecWindow.window x off s.size inb = x := by
  funext y
  refine congrArg x (funext fun a => Fin.ext ?_)
  show off a + 1 * (y a).val = (y a).val
  rw [h a, Nat.zero_add, Nat.one_mul]

/-- A value put over everything is all there is. -/
theorem put_all {α : Type} {s : Shape} (x w : s.Idx → α) (off : Fin s.rank → ℕ) (h : ∀ a, off a = 0) : VecWindow.put x off s.size w = w := by
  have inb : ∀ a, off a + s.size a ≤ s.size a := fun a => by rw [h a, Nat.zero_add]
  rw [← window_all (VecWindow.put x off s.size w) off h inb]
  exact VecWindow.window_put_same x off s.size inb w

variable {α : Type}

theorem S1x1x1024x1024_all (x : S1x1x1024x1024.Idx → α) (inb) : VecWindow.window x ![0, 0, 0, 0] ![1, 1, 1024, 1024] inb = x := window_all (s := S1x1x1024x1024) x _ (by decide) inb
theorem S1x4096x128_all (x : S1x4096x128.Idx → α) (inb) : VecWindow.window x ![0, 0, 0] ![1, 4096, 128] inb = x := window_all (s := S1x4096x128) x _ (by decide) inb
theorem S1x128x64_all (x : S1x128x64.Idx → α) (inb) : VecWindow.window x ![0, 0, 0] ![1, 128, 64] inb = x := window_all (s := S1x128x64) x _ (by decide) inb
theorem S1x1x64_all (x : S1x1x64.Idx → α) (inb) : VecWindow.window x ![0, 0, 0] ![1, 1, 64] inb = x := window_all (s := S1x1x64) x _ (by decide) inb
theorem S1x4096_all (x : S1x4096.Idx → α) (inb) : VecWindow.window x ![0, 0] ![1, 4096] inb = x := window_all (s := S1x4096) x _ (by decide) inb
theorem S32x128_all (x : S32x128.Idx → α) (inb) : VecWindow.window x ![0, 0] ![32, 128] inb = x := window_all (s := S32x128) x _ (by decide) inb
theorem S64x32_all (x : S64x32.Idx → α) (inb) : VecWindow.window x ![0, 0] ![64, 32] inb = x := window_all (s := S64x32) x _ (by decide) inb
theorem S1x32_all (x : S1x32.Idx → α) (inb) : VecWindow.window x ![0, 0] ![1, 32] inb = x := window_all (s := S1x32) x _ (by decide) inb
theorem S64x64_all (x : S64x64.Idx → α) (inb) : VecWindow.window x ![0, 0] ![64, 64] inb = x := window_all (s := S64x64) x _ (by decide) inb
theorem S1x1_all (x : S1x1.Idx → α) (inb) : VecWindow.window x ![0, 0] ![1, 1] inb = x := window_all (s := S1x1) x _ (by decide) inb
theorem S4096x64_put (x w : S4096x64.Idx → α) : VecWindow.put x ![0, 0] ![4096, 64] w = w := put_all (s := S4096x64) x w _ (by decide)
theorem S3x1x32_put (x w : S3x1x32.Idx → α) : VecWindow.put x ![0, 0, 0] ![3, 1, 32] w = w := put_all (s := S3x1x32) x w _ (by decide)
theorem S1x1024x64_put (x w : S1x1024x64.Idx → α) : VecWindow.put x ![0, 0, 0] ![1, 1024, 64] w = w := put_all (s := S1x1024x64) x w _ (by decide)
theorem S1x1_put (x w : S1x1.Idx → α) : VecWindow.put x ![0, 0] ![1, 1] w = w := put_all (s := S1x1) x w _ (by decide)

end Views

/-! ## The body -/

/-- The buffers hold the inputs `x`, the two outputs `d19` and `d20`, and the scratch contents `s`. -/
def Held (c : Dev nD) (B : Mem) (x : Ins F) (d19 : Vec F S1x1024x64 .f32) (d20 : Vec F S1x1 .f32) (s : St F) : sProp 𝕄 :=
  iprop(owns (c : Thread nD τ) B.a0 fullShare (x.x0) ∗ owns (c : Thread nD τ) B.a1 fullShare (x.x1) ∗ owns (c : Thread nD τ) B.a2 fullShare (x.x2) ∗ owns (c : Thread nD τ) B.a3 fullShare (x.x3) ∗ owns (c : Thread nD τ) B.a4 fullShare (x.x4) ∗ owns (c : Thread nD τ) B.a5 fullShare (x.x5) ∗ owns (c : Thread nD τ) B.a6 fullShare (x.x6) ∗ owns (c : Thread nD τ) B.a7 fullShare (x.x7) ∗ owns (c : Thread nD τ) B.a8 fullShare (x.x8) ∗ owns (c : Thread nD τ) B.a9 fullShare (x.x9) ∗ owns (c : Thread nD τ) B.a10 fullShare (x.x10) ∗ owns (c : Thread nD τ) B.a11 fullShare (x.x11) ∗ owns (c : Thread nD τ) B.a12 fullShare (x.x12) ∗ owns (c : Thread nD τ) B.a13 fullShare (x.x13) ∗ owns (c : Thread nD τ) B.a14 fullShare (x.x14) ∗ owns (c : Thread nD τ) B.a15 fullShare (x.x15) ∗ owns (c : Thread nD τ) B.a16 fullShare (x.x16) ∗ owns (c : Thread nD τ) B.a17 fullShare (x.x17) ∗ owns (c : Thread nD τ) B.a18 fullShare (x.x18) ∗ owns (c : Thread nD τ) B.a19 fullShare (d19) ∗ owns (c : Thread nD τ) B.a20 fullShare (d20) ∗ owns (c : Thread nD τ) B.a21 fullShare (s.f1) ∗ owns (c : Thread nD τ) B.a22 fullShare (s.f2) ∗ owns (c : Thread nD τ) B.a23 fullShare (s.h1) ∗ owns (c : Thread nD τ) B.a24 fullShare (s.h2) ∗ owns (c : Thread nD τ) B.a25 fullShare (s.t1) ∗ owns (c : Thread nD τ) B.a26 fullShare (s.t2))

/-- The whole buffer `a` holds `x`, as the memory has it. -/
abbrev raw (c : Dev nD) {sp : Space} {sh : Shape} {e : EltTy} {a : Memref sig .tc sp sh e} (w : a.IsWhole) (x : Vec F sh e) : sProp 𝕄 :=
  iprop(a.view.loc (c : Thread nD τ) ↦[a.view.set]{fullShare} w.unread x)

/-- A whole buffer that is owned at `x` holds `x`. -/
theorem owns_raw (c : Dev nD) {sp : Space} {sh : Shape} {e : EltTy} {a : Memref sig .tc sp sh e} (w : a.IsWhole) (x : Vec F sh e) :
    (owns (c : Thread nD τ) a fullShare x : sProp 𝕄) ⊢ raw c w x := by
  unfold owns
  iintro ⟨%f, %h, H⟩
  obtain rfl := w.eq_unread h
  iexact H

/-- The same buffers as `Held`, as the memory has them. -/
def Raw (c : Dev nD) (B : Mem) (x : Ins F) (d19 : Vec F S1x1024x64 .f32) (d20 : Vec F S1x1 .f32) (s : St F) : sProp 𝕄 :=
  iprop(raw c B.w0 x.x0 ∗
    raw c B.w1 x.x1 ∗
    raw c B.w2 x.x2 ∗
    raw c B.w3 x.x3 ∗
    raw c B.w4 x.x4 ∗
    raw c B.w5 x.x5 ∗
    raw c B.w6 x.x6 ∗
    raw c B.w7 x.x7 ∗
    raw c B.w8 x.x8 ∗
    raw c B.w9 x.x9 ∗
    raw c B.w10 x.x10 ∗
    raw c B.w11 x.x11 ∗
    raw c B.w12 x.x12 ∗
    raw c B.w13 x.x13 ∗
    raw c B.w14 x.x14 ∗
    raw c B.w15 x.x15 ∗
    raw c B.w16 x.x16 ∗
    raw c B.w17 x.x17 ∗
    raw c B.w18 x.x18 ∗
    raw c B.w19 d19 ∗
    raw c B.w20 d20 ∗
    raw c B.w21 s.f1 ∗
    raw c B.w22 s.f2 ∗
    raw c B.w23 s.h1 ∗
    raw c B.w24 s.h2 ∗
    raw c B.w25 s.t1 ∗
    raw c B.w26 s.t2)

/-- Buffers held at those values hold them in memory. -/
theorem held_raw (c : Dev nD) (B : Mem) (x : Ins F) (d19 : Vec F S1x1024x64 .f32) (d20 : Vec F S1x1 .f32) (s : St F) :
    Held c B x d19 d20 s ⊢ Raw c B x d19 d20 s := by
  unfold Held Raw
  repeat refine BIClass.sep_mono (owns_raw (F := F) _ _ _) ?_
  exact owns_raw (F := F) _ _ _

/-- The body on the buffers `B`. -/
def bodyOn (i : grid0.Coords) (B : Mem) : Prog (TpuEff nD τ sig (Elt F) Λ₀ .tc) PUnit :=
  cc0__fused_body i B.a0 B.w0 B.a1 B.w1 B.a2 B.w2 B.a3 B.w3 B.a4 B.w4 B.a5 B.w5 B.a6 B.w6 B.a7 B.w7 B.a8 B.w8 B.a9 B.w9 B.a10 B.w10 B.a11 B.w11 B.a12 B.w12 B.a13 B.w13 B.a14 B.w14 B.a15 B.w15 B.a16 B.w16 B.a17 B.w17 B.a18 B.w18 B.a19 B.w19 B.a20 B.w20 B.a21 B.w21 B.a22 B.w22 B.a23 B.w23 B.a24 B.w24 B.a25 B.w25 B.a26 B.w26

/-- The first conditional block runs. -/
abbrev first (i : grid0.Coords) : Prop := (Scalar.cmpi .ne (Scalar.extui (Scalar.cmpi .eq (BitVec.ofNat 32 (i 1).val) 0#32)) 0#32) = 1#1
/-- The second conditional block runs. -/
abbrev start (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The third conditional block runs. -/
abbrev last (i : grid0.Coords) : Prop := k0_cond3 i = 1#1

end Cert.KernelIdeal.Hand

end
-- ==== Proof.Run.lean ====
module

public import proofs.«01_k».proof.Proof.Body

/-! The body at a grid point, in the four combinations of its conditional blocks that occur. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Which conditional blocks run at a point that finds the scratch buffers `s` and the second output `d`; with what the
    scratch buffers are after the first two of them, and what the second output is at the end. -/
inductive Case (i : grid0.Coords) (x : Ins F) (s : St F) (d : Vec F S1x1 .f32) : St F → Vec F S1x1 .f32 → Prop
  /-- The first point: the features are projected and the sums start at zero. -/
  | start : first i → start i → ¬ last i → Case i x s d (zero (proj x s)) d
  /-- The first point of a later view: the features are projected. -/
  | first : first i → ¬ start i → ¬ last i → Case i x s d (proj x s) d
  /-- A point inside a view, before the last. -/
  | inside : ¬ first i → ¬ start i → ¬ last i → Case i x s d s d
  /-- The last point, which also computes the loss. -/
  | last : ¬ first i → ¬ start i → last i → Case i x s d s (loss x (next i x s))

set_option maxHeartbeats 4000000 in
/-- The body stores the point's block and carries the scratch buffers on, whichever blocks run. -/
theorem body (c : Dev nD) (i : grid0.Coords) (B : Mem) (x : Ins F) (d19 : Vec F S1x1024x64 .f32) (d20 d : Vec F S1x1 .f32) (s r : St F)
    (h : Case i x s d20 r d) (E : Set ℕ) (K : PUnit → sProp 𝕄) :
    iprop(Held c B x d19 d20 s ∗ (Held c B x (blk x r.f1) d (next i x r) -∗ K ⟨⟩))
      ⊢ wp frame (wpE (defs₀ (F := F)) Variants.none c none) E (bodyOn i B) K := by
  refine (BIClass.sep_mono (held_raw c B x d19 d20 s) .rfl).trans ?_
  obtain ⟨a0, w0, a1, w1, a2, w2, a3, w3, a4, w4, a5, w5, a6, w6, a7, w7, a8, w8, a9, w9, a10, w10, a11, w11, a12, w12, a13, w13, a14, w14, a15, w15, a16, w16, a17, w17, a18, w18, a19, w19, a20, w20, a21, w21, a22, w22, a23, w23, a24, w24, a25, w25, a26, w26⟩ := B
  obtain ⟨x0, x1, x2, x3, x4, x5, x6, x7, x8, x9, x10, x11, x12, x13, x14, x15, x16, x17, x18⟩ := x
  obtain ⟨f1, f2, h1, h2, t1, t2⟩ := s
  cases h with | start hc0 hc1 hc2 | first hc0 hc1 hc2 | inside hc0 hc1 hc2 | last hc0 hc1 hc2
  all_goals
    unfold bodyOn Raw Held
    simp only [cc0__fused_body_eq_skeleton]; unfold cc0__fused_body_skel
    simp only [k0_part6_eq_skeleton, k0_part7_eq_skeleton, k0_part8_eq_skeleton, k0_part5_eq_skeleton, k0_part1_eq_skeleton, k0_part2_eq_skeleton, k0_part3_eq_skeleton, k0_part4_eq_skeleton]
    iintro ⟨⟨H0, H1, H2, H3, H4, H5, H6, H7, H8, H9, H10, H11, H12, H13, H14, H15, H16, H17, H18, H19, H20, H21, H22, H23, H24, H25, H26⟩, Hk⟩
    sl_exec (disch := first | sl_exact hc0 | sl_exact hc1 | sl_exact hc2)
    sl_step
    iapply Hk
    isplitl [H0]; swap; isplitl [H1]; swap; isplitl [H2]; swap; isplitl [H3]; swap; isplitl [H4]; swap; isplitl [H5]; swap; isplitl [H6]; swap
    isplitl [H7]; swap; isplitl [H8]; swap; isplitl [H9]; swap; isplitl [H10]; swap; isplitl [H11]; swap; isplitl [H12]; swap; isplitl [H13]; swap
    isplitl [H14]; swap; isplitl [H15]; swap; isplitl [H16]; swap; isplitl [H17]; swap; isplitl [H18]; swap; isplitl [H19]; swap; isplitl [H20]; swap
    isplitl [H21]; swap; isplitl [H22]; swap; isplitl [H23]; swap; isplitl [H24]; swap; isplitl [H25]; swap
    all_goals (unfold owns; iexists _; isplitr; swap; iassumption; ipureintro)
    all_goals first | with_reducible exact Memref.IsWhole.read_unread (by assumption) _ | skip
    all_goals
      sl_unfold_run_names
      simp only [View.writes_nil, View.readAt_full, View.readCov_full, View.read_writes_full, Memref.IsWhole.read_unread, load_window, cov_window, store_put,
        S1x1x1024x1024_all, S1x4096x128_all, S1x128x64_all, S1x1x64_all, S1x4096_all, S32x128_all, S64x32_all, S1x32_all, S64x64_all, S1x1_all, S4096x64_put, S3x1x32_put, S1x1024x64_put, S1x1_put]
      rfl

end Cert.KernelIdeal.Hand

end
-- ==== Proof.State.lean ====
module

public import proofs.«01_k».proof.Proof.Body
public import Idealize.ShloMosaic.Lib.ValueIdxCore

/-! What the scratch buffers hold before each grid point, as functions of the launch's arrays, and what the two results
    are made of. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

variable {F : FTy → Type} [FloatOps F]
variable (m : (ℓ : Loc nD τ sig) → Buf (Elt F) ℓ) (c : Dev nD)

/-! ## The conditions and offsets, in the point's number -/

/-- The first conditional block runs at the first of a view's four points. -/
theorem first_iff : ∀ t : Fin cfg0.N, first (grid0.coords t) ↔ t.val % 4 = 0 :=
  (fun t => by
    have ht : t.val < 12 := Nat.lt_of_lt_of_eq t.isLt N_0
    have e0 : (grid0.coords t 0).val = t.val / 4 % 3 := Pipeline.Grid.coords_val t 0 (by decide) rfl
    have e1 : (grid0.coords t 1).val = t.val / 1 % 4 := Pipeline.Grid.coords_val t 1 (by decide) rfl
    simp only [first, e0, e1]
    word_cmp : ∀ t : Fin grid0.N, first (grid0.coords t) ↔ t.val % 4 = 0)

/-- The second runs at the first point of all. -/
theorem start_iff : ∀ t : Fin cfg0.N, start (grid0.coords t) ↔ t.val % 12 = 0 :=
  (fun t => by
    have ht : t.val < 12 := Nat.lt_of_lt_of_eq t.isLt N_0
    have e0 : (grid0.coords t 0).val = t.val / 4 % 3 := Pipeline.Grid.coords_val t 0 (by decide) rfl
    have e1 : (grid0.coords t 1).val = t.val / 1 % 4 := Pipeline.Grid.coords_val t 1 (by decide) rfl
    simp only [start, e0, e1]
    word_cmp : ∀ t : Fin grid0.N, start (grid0.coords t) ↔ t.val % 12 = 0)

/-- The third runs at the last point. -/
theorem last_iff : ∀ t : Fin cfg0.N, last (grid0.coords t) ↔ t.val % 12 = 11 :=
  (fun t => by
    have ht : t.val < 12 := Nat.lt_of_lt_of_eq t.isLt N_0
    have e0 : (grid0.coords t 0).val = t.val / 4 % 3 := Pipeline.Grid.coords_val t 0 (by decide) rfl
    have e1 : (grid0.coords t 1).val = t.val / 1 % 4 := Pipeline.Grid.coords_val t 1 (by decide) rfl
    unfold last k0_cond3
    simp only [e0, e1]
    word_cmp : ∀ t : Fin grid0.N, last (grid0.coords t) ↔ t.val % 12 = 11)

/-- The rows of the hidden states point `t` stores. -/
theorem off1_eq : ∀ t : Fin cfg0.N, k0_off1 (grid0.coords t) = ![t.val / 4, t.val % 4 * 1024, 0] := by decide +revert

/-- The row of the column sums point `t` adds to. -/
theorem off2_eq : ∀ t : Fin cfg0.N, k0_off2 (grid0.coords t) = ![t.val / 4, 0, 0] := by decide +revert

/-! ## The closed form -/

/-- Point number `n`. -/
def pt (n : ℕ) (h : n < 12) : Fin cfg0.N := ⟨n, Nat.lt_of_lt_of_eq h N_0.symm⟩

/-- What the input windows hold at point `t`. -/
def ins (t : Fin cfg0.N) : Ins F :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t, iblk m c 14 t,
    iblk m c 15 t, iblk m c 16 t, iblk m c 17 t, iblk m c 18 t⟩

/-- The first point of point `t`'s view. -/
def head (t : Fin cfg0.N) : Fin cfg0.N := ⟨t.val / 4 * 4, Nat.lt_of_le_of_lt (Nat.div_mul_le_self _ _) t.isLt⟩

/-- The first projected feature matrix at point `t`. -/
def f1At (t : Fin cfg0.N) : Vec F S4096x64 .bf16 := k0_pay34 (ins m c (head t)).x6 (ins m c (head t)).x4
/-- The second. -/
def f2At (t : Fin cfg0.N) : Vec F S4096x64 .bf16 := k0_pay35 (ins m c (head t)).x6 (ins m c (head t)).x5

/-- The rows of the first hidden states point `t` stores. -/
def rows1 (t : Fin cfg0.N) : Vec F S1x1024x64 .bf16 :=
  k0_pay54 (y1 (ins m c t) (f1At m c t)) (g1 (ins m c t) (f1At m c t)) (sl (ins m c t))
/-- The rows of the second. -/
def rows2 (t : Fin cfg0.N) : Vec F S1x1024x64 .bf16 := k0_pay55 (k0_pay39 (ins m c t).x8) (y2 (ins m c t) (f2At m c t))

/-- The number of the point that stores a row of the hidden states. -/
def who (z : S3x4096x64.Idx) : ℕ := 4 * (z 0).val + (z 1).val / 1024

theorem who_lt (z : S3x4096x64.Idx) : who z < 12 := by
  have h0 : (z 0).val < 3 := (z 0).isLt
  have h1 : (z 1).val < 4096 := (z 1).isLt
  unfold who; omega

/-- An index of the hidden states within its point's rows. -/
def within (z : S3x4096x64.Idx) : S1x1024x64.Idx := ix3 ⟨0, Nat.one_pos⟩ ⟨(z 1).val % 1024, Nat.mod_lt _ (by decide)⟩ (z 2)

/-- The first hidden states, complete. -/
def H1 : Vec F S3x4096x64 .bf16 := fun z => rows1 m c (pt (who z) (who_lt z)) (within z)
/-- The second hidden states, complete. -/
def H2 : Vec F S3x4096x64 .bf16 := fun z => rows2 m c (pt (who z) (who_lt z)) (within z)

/-- The row point `t` writes into the first column sums, of the sums it found. -/
def sum1 (t : Fin cfg0.N) (T : Vec F S3x1x32 .f32) : Vec F S1x1x32 .f32 :=
  k0_pay57 (ins m c t).x14 (k0_pay40 (ins m c t).x15) (y1 (ins m c t) (f1At m c t)) (g1 (ins m c t) (f1At m c t)) (sl (ins m c t))
    (VecWindow.window T (k0_off2 (grid0.coords t)) S1x1x32.size (k0_off2_inb (grid0.coords t)))
/-- The row it writes into the second. -/
def sum2 (t : Fin cfg0.N) (T : Vec F S3x1x32 .f32) : Vec F S1x1x32 .f32 :=
  k0_pay1 (k0_pay56 (k0_pay39 (ins m c t).x8) (ins m c t).x14 (k0_pay40 (ins m c t).x15) (y2 (ins m c t) (f2At m c t)))
    (VecWindow.window T (k0_off2 (grid0.coords t)) S1x1x32.size (k0_off2_inb (grid0.coords t)))

/-- The first column sums after `n` points. -/
def T1 : ℕ → Vec F S3x1x32 .f32
  | 0 => k0_pay36
  | n + 1 => if h : n < 12 then VecWindow.put (T1 n) (k0_off2 (grid0.coords (pt n h))) S1x1x32.size (sum1 m c (pt n h) (T1 n)) else T1 n
/-- The second column sums after `n` points. -/
def T2 : ℕ → Vec F S3x1x32 .f32
  | 0 => k0_pay37
  | n + 1 => if h : n < 12 then VecWindow.put (T2 n) (k0_off2 (grid0.coords (pt n h))) S1x1x32.size (sum2 m c (pt n h) (T2 n)) else T2 n

/-- The scratch buffers with the feature matrices point `t` uses, the complete hidden states and the complete sums. -/
def fin (t : Fin cfg0.N) : St F := ⟨f1At m c t, f2At m c t, H1 m c, H2 m c, T1 m c 12, T2 m c 12⟩

/-- What is known of the scratch buffers before point `n`: within a view its feature matrices, after the first point the
    sums so far, and of the hidden states the rows of the points done. -/
structure Good (n : ℕ) (s : St F) : Prop where
  f1 : ∀ h : n < 12, n % 4 ≠ 0 → s.f1 = f1At m c (pt n h)
  f2 : ∀ h : n < 12, n % 4 ≠ 0 → s.f2 = f2At m c (pt n h)
  t1 : n ≠ 0 → s.t1 = T1 m c n
  t2 : n ≠ 0 → s.t2 = T2 m c n
  h1 : ∀ z, who z < n → s.h1 z = H1 m c z
  h2 : ∀ z, who z < n → s.h2 z = H2 m c z

/-- The scratch buffers once point `n`'s conditional stores are done. -/
def prep (n : ℕ) (x : Ins F) (s : St F) : St F :=
  if n % 12 = 0 then zero (proj x s) else if n % 4 = 0 then proj x s else s

variable {m c}

/-- Nothing is known before the first point. -/
theorem good_zero (s : St F) : Good m c 0 s :=
  ⟨fun _ h => absurd rfl h, fun _ h => absurd rfl h, fun h => absurd rfl h, fun h => absurd rfl h,
    fun _ h => absurd h (Nat.not_lt_zero _), fun _ h => absurd h (Nat.not_lt_zero _)⟩

/-- A point at the head of its view is its own head. -/
theorem head_eq (t : Fin cfg0.N) (h : t.val % 4 = 0) : head t = t := Fin.ext (by show t.val / 4 * 4 = t.val; omega)

/-- Two points of one view have one head. -/
theorem head_congr (t u : Fin cfg0.N) (h : t.val / 4 = u.val / 4) : head t = head u :=
  Fin.ext (by show t.val / 4 * 4 = u.val / 4 * 4; rw [h])

/-- After the conditional stores the first feature matrix is the point's. -/
theorem prep_f1 {n : ℕ} {s : St F} (h : n < 12) (g : Good m c n s) : (prep n (ins m c (pt n h)) s).f1 = f1At m c (pt n h) := by
  unfold prep
  by_cases h4 : n % 4 = 0
  · have e : f1At m c (pt n h) = k0_pay34 (ins m c (pt n h)).x6 (ins m c (pt n h)).x4 := by
      unfold f1At; rw [head_eq (pt n h) h4]
    split
    · exact e.symm
    · exact e.symm
  · rw [if_neg (by omega), if_neg h4]; exact g.f1 h h4

theorem prep_f2 {n : ℕ} {s : St F} (h : n < 12) (g : Good m c n s) : (prep n (ins m c (pt n h)) s).f2 = f2At m c (pt n h) := by
  unfold prep
  by_cases h4 : n % 4 = 0
  · have e : f2At m c (pt n h) = k0_pay35 (ins m c (pt n h)).x6 (ins m c (pt n h)).x5 := by
      unfold f2At; rw [head_eq (pt n h) h4]
    split
    · exact e.symm
    · exact e.symm
  · rw [if_neg (by omega), if_neg h4]; exact g.f2 h h4

/-- After the conditional stores the first sums are those of the points done. -/
theorem prep_t1 {n : ℕ} {s : St F} (h : n < 12) (g : Good m c n s) : (prep n (ins m c (pt n h)) s).t1 = T1 m c n := by
  unfold prep
  by_cases h0 : n = 0
  · subst h0; rfl
  · rw [if_neg (by omega)]
    split <;> exact g.t1 h0

theorem prep_t2 {n : ℕ} {s : St F} (h : n < 12) (g : Good m c n s) : (prep n (ins m c (pt n h)) s).t2 = T2 m c n := by
  unfold prep
  by_cases h0 : n = 0
  · subst h0; rfl
  · rw [if_neg (by omega)]
    split <;> exact g.t2 h0

/-- The conditional stores leave the hidden states. -/
theorem prep_h1 (n : ℕ) (x : Ins F) (s : St F) : (prep n x s).h1 = s.h1 := by
  unfold prep; split
  · rfl
  · split <;> rfl

theorem prep_h2 (n : ℕ) (x : Ins F) (s : St F) : (prep n x s).h2 = s.h2 := by
  unfold prep; split
  · rfl
  · split <;> rfl

/-- Storing point `n`'s rows over hidden states right on the rows before makes them right on its own rows too. -/
theorem put_rows {n : ℕ} (h : n < 12) (H x : Vec F S3x4096x64 .bf16) (R : (t : Fin cfg0.N) → Vec F S1x1024x64 .bf16)
    (hH : ∀ z, H z = R (pt (who z) (who_lt z)) (within z)) (hx : ∀ z, who z < n → x z = H z) (z : S3x4096x64.Idx) (hz : who z < n + 1) :
    VecWindow.put x (k0_off1 (grid0.coords (pt n h))) S1x1024x64.size (R (pt n h)) z = H z := by
  have h0 : (z 0).val < 3 := (z 0).isLt
  have h1 : (z 1).val < 4096 := (z 1).isLt
  have h2 : (z 2).val < 64 := (z 2).isLt
  rw [off1_eq]
  unfold VecWindow.put
  by_cases hw : who z = n
  · have hin : ∀ a : Fin 3, (![(pt n h).val / 4, (pt n h).val % 4 * 1024, 0] : Fin 3 → ℕ) a ≤ (z a).val
        ∧ (z a).val < (![(pt n h).val / 4, (pt n h).val % 4 * 1024, 0] : Fin 3 → ℕ) a + S1x1024x64.size a := by
      have hn : (pt n h).val = n := rfl
      have hw' : 4 * (z 0).val + (z 1).val / 1024 = n := hw
      intro a
      match a with
      | ⟨0, _⟩ => show (pt n h).val / 4 ≤ (z 0).val ∧ (z 0).val < (pt n h).val / 4 + 1; omega
      | ⟨1, _⟩ => show (pt n h).val % 4 * 1024 ≤ (z 1).val ∧ (z 1).val < (pt n h).val % 4 * 1024 + 1024; omega
      | ⟨2, _⟩ => show 0 ≤ (z 2).val ∧ (z 2).val < 0 + 64; omega
    rw [dif_pos hin, hH]
    have ep : pt (who z) (who_lt z) = pt n h := Fin.ext hw
    rw [ep]
    refine congrArg (R (pt n h)) (funext fun a => Fin.ext ?_)
    have hn : (pt n h).val = n := rfl
    have hw' : 4 * (z 0).val + (z 1).val / 1024 = n := hw
    match a with
    | ⟨0, _⟩ => show (z 0).val - (pt n h).val / 4 = 0; omega
    | ⟨1, _⟩ => show (z 1).val - (pt n h).val % 4 * 1024 = (z 1).val % 1024; omega
    | ⟨2, _⟩ => show (z 2).val - 0 = (z 2).val; omega
  · rw [dif_neg]
    · exact hx z (by omega)
    · intro hall
      have a0 : (pt n h).val / 4 ≤ (z 0).val ∧ (z 0).val < (pt n h).val / 4 + 1 := hall 0
      have a1 : (pt n h).val % 4 * 1024 ≤ (z 1).val ∧ (z 1).val < (pt n h).val % 4 * 1024 + 1024 := hall 1
      have hn : (pt n h).val = n := rfl
      exact hw (by unfold who; omega)

/-- One point's work carries what is known forward. -/
theorem good_step {n : ℕ} {s : St F} (h : n < 12) (g : Good m c n s) :
    Good m c (n + 1) (next (grid0.coords (pt n h)) (ins m c (pt n h)) (prep n (ins m c (pt n h)) s)) where
  f1 := fun h' h4 => by
    show (prep n (ins m c (pt n h)) s).f1 = _
    rw [prep_f1 h g]; unfold f1At
    rw [head_congr (pt (n + 1) h') (pt n h) (by show (n + 1) / 4 = n / 4; omega)]
  f2 := fun h' h4 => by
    show (prep n (ins m c (pt n h)) s).f2 = _
    rw [prep_f2 h g]; unfold f2At
    rw [head_congr (pt (n + 1) h') (pt n h) (by show (n + 1) / 4 = n / 4; omega)]
  t1 := fun _ => by
    rw [T1, dif_pos h]; unfold next sum1; dsimp only; rw [prep_f1 h g, prep_t1 h g]
  t2 := fun _ => by
    rw [T2, dif_pos h]; unfold next sum2; dsimp only; rw [prep_f2 h g, prep_t2 h g]
  h1 := fun z hz => by
    unfold next; dsimp only; rw [prep_f1 h g, prep_h1]
    exact put_rows h (H1 m c) s.h1 (rows1 m c) (fun _ => rfl) g.h1 z hz
  h2 := fun z hz => by
    unfold next; dsimp only; rw [prep_f2 h g, prep_h2]
    exact put_rows h (H2 m c) s.h2 (rows2 m c) (fun _ => rfl) g.h2 z hz

/-- After the last point the loss is that of the complete buffers. -/
theorem loss_eq {s : St F} (x : Ins F) (g : Good m c 12 s) (t : Fin cfg0.N) : loss x s = loss x (fin m c t) := by
  have e1 : s.h1 = H1 m c := funext fun z => g.h1 z (who_lt z)
  have e2 : s.h2 = H2 m c := funext fun z => g.h2 z (who_lt z)
  have e3 : s.t1 = T1 m c 12 := g.t1 (by decide)
  have e4 : s.t2 = T2 m c 12 := g.t2 (by decide)
  unfold loss fin; dsimp only; rw [e1, e2, e3, e4]

end Cert.KernelIdeal.Hand

end
-- ==== Proof.Launch.lean ====
module

public import proofs.«01_k».proof.Proof.Run
public import proofs.«01_k».proof.Proof.State
public import Idealize.ShloMosaic.Lib.Claim

/-! The launch: what the scratch buffers and windows hold at each grid point, the obligation of the body there, and the
    run of the whole program with every argument unchanged. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Scratch buffer 0. -/
abbrev sc0 : Memref sig .tc .vmem S4096x64 .bf16 := Memref.whole cc0_scratch0
/-- Scratch buffer 1. -/
abbrev sc1 : Memref sig .tc .vmem S4096x64 .bf16 := Memref.whole cc0_scratch1
/-- Scratch buffer 2. -/
abbrev sc2 : Memref sig .tc .vmem S3x4096x64 .bf16 := Memref.whole cc0_scratch2
/-- Scratch buffer 3. -/
abbrev sc3 : Memref sig .tc .vmem S3x4096x64 .bf16 := Memref.whole cc0_scratch3
/-- Scratch buffer 4. -/
abbrev sc4 : Memref sig .tc .vmem S3x1x32 .f32 := Memref.whole cc0_scratch4
/-- Scratch buffer 5. -/
abbrev sc5 : Memref sig .tc .vmem S3x1x32 .f32 := Memref.whole cc0_scratch5

/-- The buffers the body is called on at point `t`. -/
def memAt (t : Fin cfg0.N) : Mem :=
  ⟨win0_0.stage (cfg0.slots t 0), hstage0_0 ((cfg0.slots t 0).cast nbuf0_0),
    win0_1.stage (cfg0.slots t 1), hstage0_1 ((cfg0.slots t 1).cast nbuf0_1),
    win0_2.stage (cfg0.slots t 2), hstage0_2 ((cfg0.slots t 2).cast nbuf0_2),
    win0_3.stage (cfg0.slots t 3), hstage0_3 ((cfg0.slots t 3).cast nbuf0_3),
    win0_4.stage (cfg0.slots t 4), hstage0_4 ((cfg0.slots t 4).cast nbuf0_4),
    win0_5.stage (cfg0.slots t 5), hstage0_5 ((cfg0.slots t 5).cast nbuf0_5),
    win0_6.stage (cfg0.slots t 6), hstage0_6 ((cfg0.slots t 6).cast nbuf0_6),
    win0_7.stage (cfg0.slots t 7), hstage0_7 ((cfg0.slots t 7).cast nbuf0_7),
    win0_8.stage (cfg0.slots t 8), hstage0_8 ((cfg0.slots t 8).cast nbuf0_8),
    win0_9.stage (cfg0.slots t 9), hstage0_9 ((cfg0.slots t 9).cast nbuf0_9),
    win0_10.stage (cfg0.slots t 10), hstage0_10 ((cfg0.slots t 10).cast nbuf0_10),
    win0_11.stage (cfg0.slots t 11), hstage0_11 ((cfg0.slots t 11).cast nbuf0_11),
    win0_12.stage (cfg0.slots t 12), hstage0_12 ((cfg0.slots t 12).cast nbuf0_12),
    win0_13.stage (cfg0.slots t 13), hstage0_13 ((cfg0.slots t 13).cast nbuf0_13),
    win0_14.stage (cfg0.slots t 14), hstage0_14 ((cfg0.slots t 14).cast nbuf0_14),
    win0_15.stage (cfg0.slots t 15), hstage0_15 ((cfg0.slots t 15).cast nbuf0_15),
    win0_16.stage (cfg0.slots t 16), hstage0_16 ((cfg0.slots t 16).cast nbuf0_16),
    win0_17.stage (cfg0.slots t 17), hstage0_17 ((cfg0.slots t 17).cast nbuf0_17),
    win0_18.stage (cfg0.slots t 18), hstage0_18 ((cfg0.slots t 18).cast nbuf0_18),
    win0_19.stage (cfg0.slots t 19), hstage0_19 ((cfg0.slots t 19).cast nbuf0_19),
    win0_20.stage (cfg0.slots t 20), hstage0_20 ((cfg0.slots t 20).cast nbuf0_20),
    sc0, Memref.isWhole_whole _,
    sc1, Memref.isWhole_whole _,
    sc2, Memref.isWhole_whole _,
    sc3, Memref.isWhole_whole _,
    sc4, Memref.isWhole_whole _,
    sc5, Memref.isWhole_whole _⟩

/-- The body at point `t` is the body on those buffers. -/
theorem bodyAt_eq (t : Fin cfg0.N) : bodyAt0 (F := F) t = bodyOn (grid0.coords t) (memAt t) := rfl

/-- The scratch buffers hold `s`. -/
def Scr (c : Dev nD) (s : St F) : sProp 𝕄 :=
  iprop(owns (c : Thread nD τ) sc0 fullShare s.f1 ∗ owns (c : Thread nD τ) sc1 fullShare s.f2 ∗ owns (c : Thread nD τ) sc2 fullShare s.h1 ∗ owns (c : Thread nD τ) sc3 fullShare s.h2 ∗ owns (c : Thread nD τ) sc4 fullShare s.t1 ∗ owns (c : Thread nD τ) sc5 fullShare s.t2)

/-- What holds before point `n`: the scratch buffers at contents of which `Good` is known, and the generator at some state. -/
def Inv (c : Dev nD) (n : ℕ) : sProp 𝕄 :=
  iprop(∃ s : St F, ⌜Good m c n s⌝ ∗ Scr c s ∗ (∃ r, prngReg c r))

/-- The launch's proof data: inputs stay at their blocks, the first result's window ends each point at the point's block,
    the second's at the loss of the complete buffers (it is stored at the last point alone). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => blk (ins m c t) (f1At m c t)
    | ⟨20, _⟩ => loss (ins m c t) (fin m c t)
    | ⟨_ + 21, h⟩ => absurd h (Nat.not_lt.2 (Nat.le_add_left _ _))
  Φ t := Inv m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = blk (ins m c t) (f1At m c t) := by dsimp only [dats]
theorem after_20 (c : Dev nD) (t : Fin cfg0.N) : (dats m 0 c).after 20 t = loss (ins m c t) (fin m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- What it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ (dats m 0 c).leavesExact 20 t)

/-- The body at any point, in the point's number. -/
theorem body_any (c : Dev nD) (t : Fin cfg0.N) (d19 : Vec F S1x1024x64 .f32) (d20 : Vec F S1x1 .f32) (s : St F) (K : PUnit → sProp 𝕄) :
    iprop(Held c (memAt t) (ins m c t) d19 d20 s
        ∗ (Held c (memAt t) (ins m c t) (blk (ins m c t) (prep t.val (ins m c t) s).f1)
            (if t.val % 12 = 11 then loss (ins m c t) (next (grid0.coords t) (ins m c t) (prep t.val (ins m c t) s)) else d20)
            (next (grid0.coords t) (ins m c t) (prep t.val (ins m c t) s)) -∗ K ⟨⟩))
      ⊢ wp frame (wpE (defs₀ (F := F)) Variants.none c none) Set.univ (bodyOn (grid0.coords t) (memAt t)) K := by
  have hN : t.val < 12 := lt_of_lt_of_eq t.isLt (show cfg0.N = 12 from N_0)
  refine body c (grid0.coords t) (memAt t) _ d19 d20 _ s _ ?_ _ _
  unfold prep
  split
  · rw [if_neg (by omega)]
    exact .start ((first_iff t).mpr (by omega)) ((start_iff t).mpr (by omega)) (fun h => absurd ((last_iff t).mp h) (by omega))
  split
  · rw [if_neg (by omega)]
    exact .first ((first_iff t).mpr (by omega)) (fun h => absurd ((start_iff t).mp h) (by omega)) (fun h => absurd ((last_iff t).mp h) (by omega))
  split
  · exact .last (fun h => absurd ((first_iff t).mp h) (by omega)) (fun h => absurd ((start_iff t).mp h) (by omega)) ((last_iff t).mpr (by omega))
  · exact .inside (fun h => absurd ((first_iff t).mp h) (by omega)) (fun h => absurd ((start_iff t).mp h) (by omega)) (fun h => absurd ((last_iff t).mp h) (by omega))

/-- At a point that is not the last, the second result's window is left as found. -/
theorem leaves20_idle (c : Dev nD) (t : Fin cfg0.N) (h : ¬ t.val % 12 = 11) :
    (dats m 0 c).leavesExact 20 t = iprop(∃ d, owns (c : Thread nD τ) (st0_20 t) fullShare ((dats m 0 c).before 20 t d)) := by
  refine (dats m 0 c).leavesExact_idle 20 t ?_ ?_
  · have e : cfg0.idle 20 (grid0.coords t) = !(k0_cond3 (grid0.coords t) == 1#1) := rfl
    rw [e, beq_eq_false_iff_ne.mpr (fun h' => h ((last_iff t).mp h'))]; rfl
  · exact Bool.eq_false_iff.mpr (fun h' => h ((flush0_20 t).mp h'))

/-- At the last point it is left at the loss. -/
theorem leaves20_last (c : Dev nD) (t : Fin cfg0.N) (h : t.val % 12 = 11) :
    (dats m 0 c).leavesExact 20 t = owns (c : Thread nD τ) (st0_20 t) fullShare ((dats m 0 c).after 20 t) := by
  have e : cfg0.idle 20 (grid0.coords t) = false := by
    have e : cfg0.idle 20 (grid0.coords t) = !(k0_cond3 (grid0.coords t) == 1#1) := rfl
    rw [e, beq_iff_eq.mpr ((last_iff t).mpr h)]; rfl
  unfold Dat.leavesExact; rw [e]

set_option maxHeartbeats 4000000 in
/-- The body at any point carries what is called for to what is returned. -/
theorem sound (c : Dev nD) (t : Fin cfg0.N) :
    pre m c t ⊢ wp frame (wpE (defs₀ (F := F)) Variants.none c none) Set.univ (bodyAt0 t) (fun _ => post m c t) := by
  have hN : t.val < 12 := lt_of_lt_of_eq t.isLt (show cfg0.N = 12 from N_0)
  have et : pt t.val hN = t := rfl
  rw [bodyAt_eq]
  unfold pre post
  simp only [before_0, before_1, before_2, before_3, before_4, before_5, before_6, before_7, before_8, before_9, before_10, before_11, before_12, before_13, before_14, before_15, before_16, before_17, before_18, after_0, after_1, after_2, after_3, after_4, after_5, after_6, after_7, after_8, after_9, after_10, after_11, after_12, after_13, after_14, after_15, after_16, after_17, after_18, after_19]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  unfold Inv Scr
  iintro ⟨⟨%s, %g, ⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have gs := good_step hN g
  have ef := prep_f1 hN g
  rw [et] at gs ef
  iapply (body_any m c t ((dats m 0 c).before 19 t d19) ((dats m 0 c).before 20 t d20) s _)
  isplitl [H0 H1 H2 H3 H4 H5 H6 H7 H8 H9 H10 H11 H12 H13 H14 H15 H16 H17 H18 H19 H20 S0 S1 S2 S3 S4 S5]
  · unfold Held memAt ins
    dsimp only
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [S0]; · iexact S0
    isplitl [S1]; · iexact S1
    isplitl [S2]; · iexact S2
    isplitl [S3]; · iexact S3
    isplitl [S4]; · iexact S4
    iexact S5
  iintro Hh
  unfold Held memAt
  icases Hh with ⟨H0, H1, H2, H3, H4, H5, H6, H7, H8, H9, H10, H11, H12, H13, H14, H15, H16, H17, H18, H19, H20, S0, S1, S2, S3, S4, S5⟩
  isplitl [S0 S1 S2 S3 S4 S5 Hg]
  · iexists (next (grid0.coords t) (ins m c t) (prep t.val (ins m c t) s))
    isplitr; · ipureintro; exact gs
    isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · rw [ef]; iexact H19
  by_cases h2 : t.val % 12 = 11
  · rw [if_pos h2, leaves20_last m c t h2, after_20]
    have gl : Good m c 12 (next (grid0.coords t) (ins m c t) (prep t.val (ins m c t) s)) := by
      have e : t.val + 1 = 12 := by omega
      rw [← e]; exact gs
    rw [loss_eq (ins m c t) gl t]
    iexact H20
  · rw [if_neg h2, leaves20_idle m c t h2]
    iexists d20
    iexact H20

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound m c t) rfl .rfl fun _ => .rfl

/-- What the launch hands over: each scratch buffer at some contents, and the generator. -/
theorem given_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- That is what holds before the first point. -/
theorem hin (c : Dev nD) : Pipeline.ΦA spec0 c ⊢ (dats m 0 c).Φ 0 := by
  rw [show (dats m 0 c).Φ 0 = Inv m c 0 from rfl, given_eq]
  unfold Inv Scr
  iintro ⟨⟨⟨%d0, S0⟩, ⟨%d1, S1⟩, ⟨%d2, S2⟩, ⟨%d3, S3⟩, ⟨%d4, S4⟩, ⟨%d5, S5⟩⟩, Hg⟩
  iexists (⟨d0, d1, d2, d3, d4, d5⟩ : St F)
  isplitr; · ipureintro; exact good_zero _
  isplitl [S0 S1 S2 S3 S4 S5]
  · isplitl [S0]; · iexact S0
    isplitl [S1]; · iexact S1
    isplitl [S2]; · iexact S2
    isplitl [S3]; · iexact S3
    isplitl [S4]; · iexact S4
    iexact S5
  iexact Hg

/-- What holds after the last point gives the scratch buffers back. -/
theorem hout (c : Dev nD) : (dats m 0 c).Φ (Fin.last cfg0.N) ⊢ Pipeline.ΦA spec0 c := by
  rw [show (dats m 0 c).Φ (Fin.last cfg0.N) = Inv m c (Fin.last cfg0.N).val from rfl, given_eq]
  unfold Inv Scr
  iintro ⟨%s, -, ⟨S0, S1, S2, S3, S4, S5⟩, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

/-! ## The run -/

set_option backward.isDefEq.respectTransparency.types false in
set_option maxHeartbeats 800000 in
/-- Every run ends, with each window's array and each host buffer at what the proof data says, and every counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- Every run leaves the sixteen arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run_post m ρ)) ((θ_run defs _ _).mono (fun _ h => h.2) (run_quiescent m ρ))

end Cert.KernelIdeal.Hand

end
-- ==== Proof.Model.lean ====
module

public import Idealize.ShloMosaic.Lib.Pointwise
public import Idealize.ShloMosaic.PureOps.Ideal

/-! The network's two results over the extended reals, by coordinates: the hidden states of the three graph convolutions,
    and the loss of the discriminator over their attention-weighted sums. -/

@[expose] public section

noncomputable section

namespace Cert.Model

open Idealize.ShloMosaic
open scoped BigOperators

/-- The arrays the network reads, by their coordinates. -/
structure Args where
  /-- The features of the true nodes. -/
  X : Fin 4096 → Fin 128 → EReal
  /-- The features of the corrupted nodes. -/
  Y : Fin 4096 → Fin 128 → EReal
  /-- The labels. -/
  l : Fin 8192 → EReal
  /-- The three adjacency matrices. -/
  A : Fin 3 → Fin 4096 → Fin 4096 → EReal
  /-- The readout's mask. -/
  u : Fin 4096 → EReal
  /-- The bias of each true node's logit. -/
  s1 : Fin 4096 → EReal
  /-- The bias of each corrupted node's logit. -/
  s2 : Fin 4096 → EReal
  /-- The convolutions' weights. -/
  W : Fin 3 → Fin 128 → Fin 64 → EReal
  /-- The convolutions' biases. -/
  b : Fin 3 → Fin 64 → EReal
  /-- The activations' slopes. -/
  a : Fin 3 → EReal
  /-- The attention's weights. -/
  Wa : Fin 64 → Fin 32 → EReal
  /-- The attention's bias. -/
  ba : Fin 32 → EReal
  /-- The attention's query. -/
  q : Fin 32 → EReal
  /-- The discriminator's matrix. -/
  D : Fin 64 → Fin 64 → EReal
  /-- The discriminator's bias. -/
  bd : EReal

variable (g : Args)

/-- Graph convolution `i` of the features `Z`, before the activation. -/
def gcn (Z : Fin 4096 → Fin 128 → EReal) (i : Fin 3) (n : Fin 4096) (k : Fin 64) : EReal :=
  ∑ m, g.A i n m * (∑ d, g.W i d k * Z m d) + g.b i k

/-- The hidden states: the convolution where it is at least zero, the slope times it elsewhere. -/
def hid (Z : Fin 4096 → Fin 128 → EReal) (i : Fin 3) (n : Fin 4096) (k : Fin 64) : EReal :=
  if 0 ≤ gcn g Z i n k then gcn g Z i n k else g.a i * gcn g Z i n k

variable (h : Fin 3 → Fin 4096 → Fin 64 → EReal)

/-- A node's attention features. -/
def feat (i : Fin 3) (n : Fin 4096) (j : Fin 32) : EReal := Ideal.tanh (∑ k, h i n k * g.Wa k j + g.ba j)

/-- The attention score of view `i`: the query's product with the mean feature. -/
def score (i : Fin 3) : EReal := Ideal.div (∑ n, ∑ j, feat g h i n j * g.q j) (Ideal.ofBits .f32 0x45800000#32)

/-- The largest of three scores. -/
def big (w : Fin 3 → EReal) : EReal := max (max (w 0) (w 1)) (w 2)

/-- The softmax of three scores. -/
def soft (w : Fin 3 → EReal) (i : Fin 3) : EReal := Ideal.div (Ideal.exp (w i - big w)) (∑ k, Ideal.exp (w k - big w))

/-- The attention-weighted sum of the views. -/
def agg (n : Fin 4096) (k : Fin 64) : EReal := ∑ i, soft (score g h) i * h i n k

/-- The readout: the sigmoid of the masked mean. -/
def read (k : Fin 64) : EReal := Ideal.logistic (Ideal.div (∑ n, agg g h n k * g.u n) (∑ n, g.u n))

/-- The discriminator's logit of node `n` against the readout `c`. -/
def logit (c : Fin 64 → EReal) (s : Fin 4096 → EReal) (n : Fin 4096) : EReal :=
  ∑ k, (∑ k', agg g h n k' * g.D k' k) * c k + g.bd + s n

/-- The binary cross-entropy of a logit and a label. -/
def bce (x l : EReal) : EReal := max x 0 - x * l + Ideal.log1p (Ideal.exp (-max x (-x)))

/-- The mean cross-entropy over the true and the corrupted nodes. -/
def loss (h1 h2 : Fin 3 → Fin 4096 → Fin 64 → EReal) : EReal :=
  Ideal.div (∑ n : Fin 4096, bce (logit g h1 (read g h1) g.s1 n) (g.l ⟨n.val, by omega⟩)
    + ∑ n : Fin 4096, bce (logit g h2 (read g h1) g.s2 n) (g.l ⟨4096 + n.val, by omega⟩)) (Ideal.ofBits .f32 0x46000000#32)

/-- The single-precision word of minus infinity. -/
theorem ofBits_bot : Ideal.ofBits .f32 0xFF800000#32 = ⊥ := by simp [Ideal.ofBits, Ideal.ieee]

/-- A maximum taken from minus infinity is the largest of the three. -/
theorem fold_max (w : Fin 3 → EReal) :
    max (Ideal.ofBits .f32 0xFF800000#32) (Finset.univ.fold max (Ideal.ofBits .f32 0xFF800000#32) w) = big w := by
  rw [ofBits_bot, max_eq_right bot_le]
  have e : (Finset.univ : Finset (Fin 3)) = {0, 1, 2} := by decide
  rw [e, Finset.fold_insert (by decide), Finset.fold_insert (by decide), Finset.fold_singleton]
  unfold big
  rw [max_eq_left (bot_le (a := w 2)), max_assoc]

end Cert.Model

end
-- ==== Proof.Arr.lean ====
module

public import proofs.«01_k».proof.Proof.State
public import proofs.«01_k».proof.Proof.Model
public import Idealize.ShloMosaic.Lib.Claim
public import Idealize.ShloMosaic.Lib.Pipeline.ValueKit.Point

/-! What the input windows hold at each grid point, read by coordinates from the launch's arrays. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Model (Args)

variable (m : (ℓ : Loc nD τ sig) → Buf (Elt Ideal) ℓ) (c : Dev nD)

/-- The arrays the kernel reads, by their coordinates. -/
def kargs : Args where
  X n d := m ((c : Thread nD τ).loc main_arg0) (ix3 0 n d)
  Y n d := m ((c : Thread nD τ).loc main_arg1) (ix3 0 n d)
  l n := m ((c : Thread nD τ).loc main_arg2) (ix2 0 n)
  A i n k := m ((c : Thread nD τ).loc main_arg3) (ix4 i 0 n k)
  u n := m ((c : Thread nD τ).loc main_arg5) (ix2 0 n)
  s1 n := m ((c : Thread nD τ).loc main_arg6) (ix2 0 n)
  s2 n := m ((c : Thread nD τ).loc main_arg7) (ix2 0 n)
  W i d k := m ((c : Thread nD τ).loc main_arg8) (ix3 i d k)
  b i k := m ((c : Thread nD τ).loc main_arg9) (ix2 i k)
  a i := m ((c : Thread nD τ).loc main_arg10) (ix1 i)
  Wa k j := m ((c : Thread nD τ).loc main_arg11) (ix2 k j)
  ba j := m ((c : Thread nD τ).loc main_arg12) (ix1 j)
  q j := m ((c : Thread nD τ).loc main_arg13) (ix1 j)
  D k j := m ((c : Thread nD τ).loc main_arg14) (ix2 k j)
  bd := m ((c : Thread nD τ).loc main_arg15) ix0

/-- The blocks of the windows that move with the point. -/
theorem moving : ∀ t : Fin cfg0.N, win0_0.index t = ![t.val / 4, 0, t.val % 4, 0] ∧ win0_1.index t = ![t.val / 4, 0, t.val % 4, 1]
    ∧ win0_2.index t = ![t.val / 4, 0, t.val % 4, 2] ∧ win0_3.index t = ![t.val / 4, 0, t.val % 4, 3]
    ∧ win0_6.index t = ![t.val / 4, 0, 0] ∧ win0_7.index t = ![t.val / 4, 0, 0] ∧ win0_8.index t = ![t.val / 4, 0, 0] :=
  (by decide +kernel : ∀ t : Fin grid0.N, _)

/-- The windows that hold a whole array. -/
theorem still : ∀ t : Fin cfg0.N, win0_4.index t = ![0, 0, 0] ∧ win0_5.index t = ![0, 0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0]
    ∧ win0_18.index t = ![0, 0] :=
  (by decide +kernel : ∀ t : Fin grid0.N, _)

/-- The view of a point. -/
def vw (t : Fin cfg0.N) : Fin 3 := ⟨t.val / 4, by have := Nat.lt_of_lt_of_eq t.isLt N_0; omega⟩
/-- A row of a point, in the matrix. -/
def row (t : Fin cfg0.N) (r : Fin 1024) : Fin 4096 := ⟨t.val % 4 * 1024 + r.val, by omega⟩

/-! ## The operands the host line makes -/

/-- What a program's first lines leave in a buffer: the lists of operations, appended. -/
theorem V_eq (b : Ref sig .tc) : V m c b = StableHlo.after (hostOps0 : List (HloOp τ sig (Elt Ideal))) (fun b => m (c, b)) (Proc.devRef .tc b) := by
  unfold V V0; rw [List.flatten_cons, List.flatten_nil, List.append_nil]

theorem V_bias (i : Fin 3) (k : Fin 64) : (V m c main_v0 (ix3 i 0 k) : EReal) = m ((c : Thread nD τ).loc main_arg9) (ix2 i k) := by
  rw [V_eq]; unfold hostOps0; entry_read; pointwise

theorem V_slope (i : Fin 3) (k : Fin 64) : (V m c main_v2 (ix3 i 0 k) : EReal) = m ((c : Thread nD τ).loc main_arg10) (ix1 i) := by
  rw [V_eq]; unfold hostOps0; entry_read; pointwise

variable (k : Fin 32) (l : Fin 128)

theorem V_true : (V m c main_v3 (ix2 k l) : EReal) = m ((c : Thread nD τ).loc main_arg6) (ix2 0 ⟨k.val * 128 + l.val, by omega⟩) := by
  rw [V_eq]; unfold hostOps0; entry_read; pointwise

theorem V_corrupt : (V m c main_v4 (ix2 k l) : EReal) = m ((c : Thread nD τ).loc main_arg7) (ix2 0 ⟨k.val * 128 + l.val, by omega⟩) := by
  rw [V_eq]; unfold hostOps0; entry_read; pointwise

theorem V_low : (V m c main_v6 (ix2 k l) : EReal) = m ((c : Thread nD τ).loc main_arg2) (ix2 0 ⟨k.val * 128 + l.val, by omega⟩) := by
  rw [V_eq]; unfold hostOps0; entry_read; pointwise

theorem V_high : (V m c main_v8 (ix2 k l) : EReal)
    = m ((c : Thread nD τ).loc main_arg2) (ix2 0 ⟨4096 + (k.val * 128 + l.val), by omega⟩) := by
  rw [V_eq]; unfold hostOps0; entry_read; pointwise

theorem V_attBias (j : Fin 32) : (V m c main_v9 (ix2 0 j) : EReal) = m ((c : Thread nD τ).loc main_arg12) (ix1 j) := by
  rw [V_eq]; unfold hostOps0; entry_read; pointwise

theorem V_query (j : Fin 32) : (V m c main_v10 (ix2 0 j) : EReal) = m ((c : Thread nD τ).loc main_arg13) (ix1 j) := by
  rw [V_eq]; unfold hostOps0; entry_read; pointwise

theorem V_disc (k j : Fin 64) : (V m c main_v11 (ix2 j k) : EReal) = m ((c : Thread nD τ).loc main_arg14) (ix2 k j) := by
  rw [V_eq]; unfold hostOps0; entry_read; pointwise

theorem V_discBias : (V m c main_v12 (ix2 0 0) : EReal) = m ((c : Thread nD τ).loc main_arg15) ix0 := by
  rw [V_eq]; unfold hostOps0; entry_read; pointwise

/-! ## The windows -/

variable (t : Fin cfg0.N)

/-- The four column blocks of a point's rows. -/
theorem ins_adj (r j : Fin 1024) :
    ((ins m c t).x0 (ix4 0 0 r j) : EReal) = (kargs m c).A (vw t) (row t r) ⟨0 + j.val, by omega⟩
      ∧ ((ins m c t).x1 (ix4 0 0 r j) : EReal) = (kargs m c).A (vw t) (row t r) ⟨1024 + j.val, by omega⟩
      ∧ ((ins m c t).x2 (ix4 0 0 r j) : EReal) = (kargs m c).A (vw t) (row t r) ⟨2048 + j.val, by omega⟩
      ∧ ((ins m c t).x3 (ix4 0 0 r j) : EReal) = (kargs m c).A (vw t) (row t r) ⟨3072 + j.val, by omega⟩ := by
  dsimp only [ins, kargs]
  refine ⟨?_, ?_, ?_, ?_⟩ <;> blk_ext! [iblk, V, moving t, vw, row]

/-- The features of both node sets. -/
theorem ins_feat (n : Fin 4096) (d : Fin 128) :
    ((ins m c t).x4 (ix3 0 n d) : EReal) = (kargs m c).X n d ∧ ((ins m c t).x5 (ix3 0 n d) : EReal) = (kargs m c).Y n d := by
  dsimp only [ins, kargs]
  refine ⟨?_, ?_⟩ <;> blk_ext! [iblk, V, still t]

/-- The weights, the bias and the slope of a point's view. -/
theorem ins_weight (d : Fin 128) (k : Fin 64) : ((ins m c t).x6 (ix3 0 d k) : EReal) = (kargs m c).W (vw t) d k := by
  dsimp only [ins, kargs]
  blk_ext! [iblk, V, moving t, vw]

theorem ins_bias (k : Fin 64) : ((ins m c t).x7 (ix3 0 0 k) : EReal) = (kargs m c).b (vw t) k := by
  refine Eq.trans ?_ (V_bias m c (vw t) k)
  dsimp only [ins]
  blk_ext! [iblk, moving t, vw]

theorem ins_slope (k : Fin 64) : ((ins m c t).x8 (ix3 0 0 k) : EReal) = (kargs m c).a (vw t) := by
  refine Eq.trans ?_ (V_slope m c (vw t) k)
  dsimp only [ins]
  blk_ext! [iblk, moving t, vw]

theorem ins_mask (n : Fin 4096) : ((ins m c t).x9 (ix2 0 n) : EReal) = (kargs m c).u n := by
  dsimp only [ins, kargs]
  blk_ext! [iblk, V, still t]

/-- The logits' biases and the labels, laid out in rows of 128. -/
theorem ins_rows : ((ins m c t).x10 (ix2 k l) : EReal) = (kargs m c).s1 ⟨k.val * 128 + l.val, by omega⟩
    ∧ ((ins m c t).x11 (ix2 k l) : EReal) = (kargs m c).s2 ⟨k.val * 128 + l.val, by omega⟩
    ∧ ((ins m c t).x12 (ix2 k l) : EReal) = (kargs m c).l ⟨k.val * 128 + l.val, by omega⟩
    ∧ ((ins m c t).x13 (ix2 k l) : EReal) = (kargs m c).l ⟨4096 + (k.val * 128 + l.val), by omega⟩ := by
  refine ⟨Eq.trans ?_ (V_true m c k l), Eq.trans ?_ (V_corrupt m c k l), Eq.trans ?_ (V_low m c k l), Eq.trans ?_ (V_high m c k l)⟩ <;>
    dsimp only [ins] <;> blk_ext! [iblk, still t]

theorem ins_att (k : Fin 64) (j : Fin 32) : ((ins m c t).x14 (ix2 k j) : EReal) = (kargs m c).Wa k j := by
  dsimp only [ins, kargs]
  blk_ext! [iblk, V, still t]

theorem ins_attBias (j : Fin 32) : ((ins m c t).x15 (ix2 0 j) : EReal) = (kargs m c).ba j := by
  refine Eq.trans ?_ (V_attBias m c j)
  dsimp only [ins]
  blk_ext! [iblk, still t]

theorem ins_query (j : Fin 32) : ((ins m c t).x16 (ix2 0 j) : EReal) = (kargs m c).q j := by
  refine Eq.trans ?_ (V_query m c j)
  dsimp only [ins]
  blk_ext! [iblk, still t]

theorem ins_disc (k j : Fin 64) : ((ins m c t).x17 (ix2 j k) : EReal) = (kargs m c).D k j := by
  refine Eq.trans ?_ (V_disc m c k j)
  dsimp only [ins]
  blk_ext! [iblk, still t]

theorem ins_discBias : ((ins m c t).x18 (ix2 0 0) : EReal) = (kargs m c).bd := by
  refine Eq.trans ?_ (V_discBias m c)
  dsimp only [ins]
  blk_ext! [iblk, still t]

end Cert.KernelIdeal.Hand

end
-- ==== Proof.Real.lean ====
module

public import proofs.«01_k».proof.Proof.Model

/-! Where the network's arrays are real, sums and products may be regrouped: the three laws by which the kernel's order of
    summation gives the model's. -/

@[expose] public section

noncomputable section

namespace Cert.Model

open Idealize.ShloMosaic
open scoped BigOperators

/-- An extended real that is a real. -/
def IsReal (x : EReal) : Prop := ∃ r : ℝ, x = (r : EReal)

theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

namespace IsReal

variable {x y : EReal}

theorem coe (r : ℝ) : IsReal (r : EReal) := ⟨r, rfl⟩

theorem add : IsReal x → IsReal y → IsReal (x + y)
  | ⟨a, ha⟩, ⟨b, hb⟩ => ⟨a + b, by rw [ha, hb, EReal.coe_add]⟩

theorem mul : IsReal x → IsReal y → IsReal (x * y)
  | ⟨a, ha⟩, ⟨b, hb⟩ => ⟨a * b, by rw [ha, hb, EReal.coe_mul]⟩

theorem sub : IsReal x → IsReal y → IsReal (x - y)
  | ⟨a, ha⟩, ⟨b, hb⟩ => ⟨a - b, by rw [ha, hb, EReal.coe_sub]⟩

theorem max : IsReal x → IsReal y → IsReal (max x y) := fun hx hy => by
  rcases le_total x y with h | h
  · rw [max_eq_right h]; exact hy
  · rw [max_eq_left h]; exact hx

theorem sum {ι : Type*} {s : Finset ι} {f : ι → EReal} (h : ∀ i, IsReal (f i)) : IsReal (∑ i ∈ s, f i) := by
  choose r hr using h
  exact ⟨∑ i ∈ s, r i, by rw [coe_sum]; exact Finset.sum_congr rfl fun i _ => hr i⟩

theorem tanh (x : EReal) : IsReal (Ideal.tanh x) := by
  induction x with
  | bot => exact ⟨-1, rfl⟩
  | top => exact ⟨1, rfl⟩
  | coe r => exact ⟨Real.tanh r, rfl⟩

/-- A quotient by a real other than zero. -/
theorem div {r : ℝ} (hr : r ≠ 0) : IsReal x → IsReal (Ideal.div x (r : EReal))
  | ⟨a, ha⟩ => ⟨a * r⁻¹, by
    rw [ha]; unfold Ideal.div
    rw [if_neg (by exact_mod_cast hr), EReal.coe_mul, EReal.coe_inv]⟩

/-- A power of `e`, positive. -/
theorem exp : IsReal x → ∃ r : ℝ, 0 < r ∧ Ideal.exp x = (r : EReal)
  | ⟨a, ha⟩ => ⟨Real.exp a, Real.exp_pos a, by rw [ha]; rfl⟩

theorem logistic (x : EReal) : IsReal (Ideal.logistic x) := by
  unfold Ideal.logistic
  induction x with
  | bot =>
    refine ⟨0, ?_⟩
    rw [EReal.neg_bot, show Ideal.exp ⊤ = ⊤ from rfl, show (1 : EReal) + ⊤ = ⊤ from rfl]
    simp [Ideal.div]
  | top =>
    refine ⟨1, ?_⟩
    rw [EReal.neg_top, show Ideal.exp ⊥ = 0 from rfl, add_zero]
    simp [Ideal.div]
  | coe r =>
    have e : (1 : EReal) + Ideal.exp (-(r : EReal)) = ((1 + Real.exp (-r) : ℝ) : EReal) := by
      rw [← EReal.coe_neg]; show (1 : EReal) + ((Real.exp (-r) : ℝ) : EReal) = _
      rw [EReal.coe_add, EReal.coe_one]
    rw [e]
    exact div (by positivity) ⟨1, rfl⟩

end IsReal

/-- The softmax of real scores is real. -/
theorem soft_real {w : Fin 3 → EReal} (h : ∀ i, IsReal (w i)) (i : Fin 3) : IsReal (soft w i) := by
  have hb : IsReal (big w) := ((h 0).max (h 1)).max (h 2)
  choose e he using fun k => ((h k).sub hb).exp
  have hs : ∑ k, Ideal.exp (w k - big w) = ((∑ k, e k : ℝ) : EReal) := by
    rw [coe_sum]; exact Finset.sum_congr rfl fun k _ => (he k).2
  unfold soft
  rw [hs]
  exact IsReal.div (Finset.sum_pos (fun k _ => (he k).1) ⟨0, Finset.mem_univ 0⟩).ne' ⟨e i, (he i).2⟩

/-- The single-precision word of 4096. -/
theorem ofBits_4096 : Ideal.ofBits .f32 0x45800000#32 = ((4096 : ℝ) : EReal) := by
  simp [Ideal.ofBits, Ideal.ieee]
  rw [← EReal.coe_mul]
  norm_num

/-- The query's product may be taken after the sum over the nodes. -/
theorem query_sum {f : Fin 4096 → Fin 32 → EReal} {q : Fin 32 → EReal} (hf : ∀ n j, IsReal (f n j)) (hq : ∀ j, IsReal (q j)) :
    ∑ j, (∑ n, f n j) * q j = ∑ n, ∑ j, f n j * q j := by
  choose f' hf using hf
  choose q' hq using hq
  simp only [hf, hq, ← EReal.coe_mul, ← coe_sum]
  congr 1
  rw [Finset.sum_comm]
  exact Finset.sum_congr rfl fun j _ => Finset.sum_mul _ _ _

/-- The views' weights may be applied after the sum over the nodes. -/
theorem readout_sum {β : Fin 3 → EReal} {h : Fin 3 → Fin 4096 → EReal} {u : Fin 4096 → EReal}
    (hβ : ∀ i, IsReal (β i)) (hh : ∀ i n, IsReal (h i n)) (hu : ∀ n, IsReal (u n)) :
    β 0 * ∑ n, u n * h 0 n + β 1 * ∑ n, u n * h 1 n + β 2 * ∑ n, u n * h 2 n = ∑ n, (∑ i, β i * h i n) * u n := by
  choose b hβ using hβ
  choose h' hh using hh
  choose u' hu using hu
  simp only [hβ, hh, hu, ← EReal.coe_mul, ← coe_sum, ← EReal.coe_add]
  congr 1
  simp only [Finset.mul_sum, Fin.sum_univ_three, ← Finset.sum_add_distrib]
  exact Finset.sum_congr rfl fun n _ => by ring

/-- The first summand of a real sum is real. -/
theorem IsReal.of_add {x y : EReal} (h : IsReal (x + y)) : IsReal x := by
  obtain ⟨r, h⟩ := h
  induction x with
  | bot => rw [EReal.bot_add] at h; exact absurd h (EReal.bot_ne_coe r)
  | top =>
    induction y with
    | bot => exact absurd h (EReal.bot_ne_coe r)
    | top => exact absurd h (EReal.top_ne_coe r)
    | coe _ => exact absurd h (EReal.top_ne_coe r)
  | coe a => exact ⟨a, rfl⟩

/-- So is every summand. -/
theorem IsReal.of_sum {ι : Type*} [Fintype ι] {f : ι → EReal} (h : IsReal (∑ i, f i)) (i : ι) : IsReal (f i) := by
  classical
  rw [← Finset.add_sum_erase _ f (Finset.mem_univ i)] at h
  exact h.of_add

/-- A quotient by an infinity is zero. -/
theorem div_infinite {y : EReal} (h : ¬ IsReal y) (x : EReal) : Ideal.div x y = 0 := by
  induction y with
  | bot => simp [Ideal.div]
  | top => simp [Ideal.div]
  | coe r => exact absurd ⟨r, rfl⟩ h

/-- The readout's mean is the same with the views' weights applied after the sums: where the mask has an infinite entry both means are zero. -/
theorem readout_mean {β : Fin 3 → EReal} {h : Fin 3 → Fin 4096 → EReal} {u : Fin 4096 → EReal} (hβ : ∀ i, IsReal (β i)) (hh : ∀ i n, IsReal (h i n)) :
    Ideal.div (β 0 * ∑ n, u n * h 0 n + β 1 * ∑ n, u n * h 1 n + β 2 * ∑ n, u n * h 2 n) (∑ n, u n)
      = Ideal.div (∑ n, (∑ i, β i * h i n) * u n) (∑ n, u n) := by
  by_cases hu : IsReal (∑ n, u n)
  · rw [readout_sum hβ hh hu.of_sum]
  · rw [div_infinite hu, div_infinite hu]

/-- The discriminator's matrix may be applied to the readout first, and the views' weights last; a part multiplied by zero adds nothing. -/
theorem logit_sum {β : Fin 3 → EReal} {h : Fin 3 → Fin 64 → EReal} {D : Fin 64 → Fin 64 → EReal} {c : Fin 64 → EReal}
    (hβ : ∀ i, IsReal (β i)) (hh : ∀ i k, IsReal (h i k)) (hD : ∀ k j, IsReal (D k j)) (hc : ∀ k, IsReal (c k)) :
    β 0 * ∑ k, h 0 k * (∑ j, c j * D k j) + β 1 * ∑ k, h 1 k * (∑ j, c j * D k j) + β 2 * ∑ k, h 2 k * (∑ j, c j * D k j)
      = ∑ j, (∑ k, (∑ i, β i * h i k) * D k j) * c j := by
  choose b hβ using hβ
  choose h' hh using hh
  choose D' hD using hD
  choose c' hc using hc
  simp only [hβ, hh, hD, hc, ← EReal.coe_mul, ← coe_sum, ← EReal.coe_add]
  congr 1
  simp only [Finset.mul_sum, Finset.sum_mul, Fin.sum_univ_three, ← Finset.sum_add_distrib]
  rw [Finset.sum_comm]
  exact Finset.sum_congr rfl fun j _ => Finset.sum_congr rfl fun k _ => by ring

/-- A real less itself is zero. -/
theorem IsReal.sub_self {x : EReal} : IsReal x → x - x = 0
  | ⟨a, ha⟩ => by rw [ha, ← EReal.coe_sub, _root_.sub_self, EReal.coe_zero]

variable {g : Args}

/-- The hidden states of real arrays are real. -/
theorem hid_real {Z : Fin 4096 → Fin 128 → EReal} (hZ : ∀ n d, IsReal (Z n d)) (hA : ∀ i n m, IsReal (g.A i n m))
    (hW : ∀ i d k, IsReal (g.W i d k)) (hb : ∀ i k, IsReal (g.b i k)) (ha : ∀ i, IsReal (g.a i)) (i : Fin 3) (n : Fin 4096) (k : Fin 64) :
    IsReal (hid g Z i n k) := by
  have hg : IsReal (gcn g Z i n k) :=
    (IsReal.sum fun m => (hA i n m).mul (IsReal.sum fun d => (hW i d k).mul (hZ m d))).add (hb i k)
  unfold hid
  split
  · exact hg
  · exact (ha i).mul hg

/-- The attention scores are real where the query is. -/
theorem score_real (h : Fin 3 → Fin 4096 → Fin 64 → EReal) (hq : ∀ j, IsReal (g.q j)) (i : Fin 3) : IsReal (score g h i) := by
  unfold score
  rw [ofBits_4096]
  exact IsReal.div (by norm_num) (IsReal.sum fun n => IsReal.sum fun j => (IsReal.tanh _).mul (hq j))

end Cert.Model

end
-- ==== Proof.Pay.lean ====
module

public import proofs.«01_k».proof.Proof.Body
public import proofs.«01_k».proof.Proof.Real

/-! The values of the kernel's body over the extended reals, read by coordinates. -/

@[expose] public section

set_option maxRecDepth 16384

noncomputable section

namespace Cert.KernelIdeal.Hand

open Cert.KernelIdeal Cert.KernelIdeal.Gen
open Idealize.ShloMosaic Idealize.ShloMosaic.TcCoe
open Cert.Model (Args IsReal)
open scoped BigOperators

/-! ## Windows by coordinates -/

/-- An element of a window is the element at its offset. -/
theorem window_apply {α : Type} {s : Shape} (x : s.Idx → α) (off size : Fin s.rank → ℕ) (inb : ∀ a, off a + size a ≤ s.size a)
    (y : (a : Fin s.rank) → Fin (size a)) (z : s.Idx) (h : ∀ a, (z a).val = off a + (y a).val) : VecWindow.window x off size inb y = x z :=
  congrArg x (funext fun a => Fin.ext (by show off a + 1 * (y a).val = (z a).val; rw [h a, Nat.one_mul]))

theorem quarter_apply (f : Vec Ideal S4096x64 .bf16) (o : ℕ) (h) (r : Fin 1024) (k : Fin 64) (e : o + r.val < 4096) :
    quarter f o h (ix2 r k) = f (ix2 ⟨o + r.val, e⟩ k) :=
  window_apply f _ _ h _ _ fun a => match a with
    | ⟨0, _⟩ => rfl
    | ⟨1, _⟩ => (Nat.zero_add _).symm

theorem view_apply (h : Vec Ideal S3x4096x64 .bf16) (p : ℕ) (hp) (e : p < 3) (n : Fin 4096) (k : Fin 64) :
    view h p hp (ix3 0 n k) = h (ix3 ⟨p, e⟩ n k) :=
  window_apply h _ _ hp _ _ fun a => match a with
    | ⟨0, _⟩ => rfl
    | ⟨1, _⟩ => (Nat.zero_add _).symm
    | ⟨2, _⟩ => (Nat.zero_add _).symm

theorem rowT_apply (t : Vec Ideal S3x1x32 .f32) (p : ℕ) (hp) (e : p < 3) (j : Fin 32) :
    rowT t p hp (ix3 0 0 j) = t (ix3 ⟨p, e⟩ 0 j) :=
  window_apply t _ _ hp _ _ fun a => match a with
    | ⟨0, _⟩ => rfl
    | ⟨1, _⟩ => rfl
    | ⟨2, _⟩ => (Nat.zero_add _).symm

/-! ## The hidden states of a point -/

/-- The activation: the value where it is at least zero, the slope times it elsewhere. -/
def act (a y : EReal) : EReal := if 0 ≤ y then y else a * y

/-- A row's product with four blocks of columns, the bias first. -/
def four (x : Ins Ideal) (f : Vec Ideal S4096x64 .bf16) (r : Fin 1024) (k : Fin 64) : EReal :=
  x.x7 (ix3 0 0 k) + (∑ j : Fin 1024, x.x0 (ix4 0 0 r j) * f (ix2 ⟨0 + j.val, by omega⟩ k))
    + (∑ j : Fin 1024, x.x1 (ix4 0 0 r j) * f (ix2 ⟨1024 + j.val, by omega⟩ k))
    + (∑ j : Fin 1024, x.x2 (ix4 0 0 r j) * f (ix2 ⟨2048 + j.val, by omega⟩ k))
    + ∑ j : Fin 1024, x.x3 (ix4 0 0 r j) * f (ix2 ⟨3072 + j.val, by omega⟩ k)

variable (x : Ins Ideal) (f : Vec Ideal S4096x64 .bf16)

theorem quarters (r : Fin 1024) (k : Fin 64) :
    x.x7 (ix3 0 0 k) + (∑ j, x.x0 (ix4 0 0 r j) * quarter f 0 inb_S4096x64_S1024x64_0_0 (ix2 j k))
      + (∑ j, x.x1 (ix4 0 0 r j) * quarter f 1024 inb_S4096x64_S1024x64_1024_0 (ix2 j k))
      + (∑ j, x.x2 (ix4 0 0 r j) * quarter f 2048 inb_S4096x64_S1024x64_2048_0 (ix2 j k))
      + (∑ j, x.x3 (ix4 0 0 r j) * quarter f 3072 inb_S4096x64_S1024x64_3072_0 (ix2 j k)) = four x f r k := by
  unfold four
  refine congrArg₂ (· + ·) (congrArg₂ (· + ·) (congrArg₂ (· + ·) (congrArg₂ (· + ·) rfl ?_) ?_) ?_) ?_ <;>
    exact Finset.sum_congr rfl fun j _ => congrArg _ (quarter_apply f _ _ j k _)

theorem y1_apply (r : Fin 1024) (k : Fin 64) : (y1 x f (ix2 r k) : EReal) = four x f r k := by
  unfold y1
  pointwise [k0_pay47, k0_pay42, k0_pay38, k0_pay41, k0_pay44, k0_pay45, k0_pay46]
  exact quarters x f r k

theorem y2_apply (r : Fin 1024) (k : Fin 64) : (y2 x f (ix2 r k) : EReal) = four x f r k := by
  unfold y2
  pointwise [k0_pay48, k0_pay43, k0_pay38, k0_pay41, k0_pay44, k0_pay45, k0_pay46]
  exact quarters x f r k

theorem act1_apply (r : Fin 1024) (k : Fin 64) :
    (Scalar.select (g1 x f (ix2 r k)) (y1 x f (ix2 r k)) (sl x (ix2 r k) * y1 x f (ix2 r k)) : EReal) = act (x.x8 (ix3 0 0 k)) (four x f r k) := by
  rw [← y1_apply]
  pointwise [g1, sl, k0_pay49, k0_pay50, k0_pay39]
  rfl

theorem blk_apply (r : Fin 1024) (k : Fin 64) : (blk x f (ix3 0 r k) : EReal) = act (x.x8 (ix3 0 0 k)) (four x f r k) := by
  unfold blk
  rw [← act1_apply]
  pointwise [k0_pay53, k0_pay51]

theorem rows1_apply (r : Fin 1024) (k : Fin 64) :
    (k0_pay54 (y1 x f) (g1 x f) (sl x) (ix3 0 r k) : EReal) = act (x.x8 (ix3 0 0 k)) (four x f r k) := by
  rw [← act1_apply]
  pointwise [k0_pay54, k0_pay51]

theorem rows2_apply (r : Fin 1024) (k : Fin 64) :
    (k0_pay55 (k0_pay39 x.x8) (y2 x f) (ix3 0 r k) : EReal) = act (x.x8 (ix3 0 0 k)) (four x f r k) := by
  pointwise [k0_pay55, k0_pay52, k0_pay39]
  rw [y2_apply]; rfl

/-- The sum over a point's rows of the attention features of the states `h`. -/
def feats (x : Ins Ideal) (h : Fin 1024 → Fin 64 → EReal) (j : Fin 32) : EReal :=
  ∑ r, Ideal.tanh (∑ k, h r k * x.x14 (ix2 k j) + x.x15 (ix2 0 j))

theorem sum1_apply (T) (j : Fin 32) : (k0_pay57 x.x14 (k0_pay40 x.x15) (y1 x f) (g1 x f) (sl x) T (ix3 0 0 j) : EReal)
    = T (ix3 0 0 j) + feats x (fun r k => act (x.x8 (ix3 0 0 k)) (four x f r k)) j := by
  unfold feats
  simp only [← act1_apply]
  pointwise [k0_pay57, k0_pay51, k0_pay40]

theorem sum2_apply (T) (j : Fin 32) : (k0_pay1 (k0_pay56 (k0_pay39 x.x8) x.x14 (k0_pay40 x.x15) (y2 x f)) T (ix3 0 0 j) : EReal)
    = T (ix3 0 0 j) + feats x (fun r k => act (x.x8 (ix3 0 0 k)) (four x f r k)) j := by
  unfold feats
  pointwise [k0_pay1, k0_pay56, k0_pay52, k0_pay40, k0_pay39]
  simp only [y2_apply]
  rfl

theorem feat1_apply (a : Vec Ideal S1x128x64 .f32) (b : Vec Ideal S1x4096x128 .f32) (n : Fin 4096) (k : Fin 64) :
    (k0_pay34 a b (ix2 n k) : EReal) = ∑ d, b (ix3 0 n d) * a (ix3 0 d k) := by
  pointwise [k0_pay34, k0_pay33]

theorem feat2_apply (a : Vec Ideal S1x128x64 .f32) (b : Vec Ideal S1x4096x128 .f32) (n : Fin 4096) (k : Fin 64) :
    (k0_pay35 a b (ix2 n k) : EReal) = ∑ d, b (ix3 0 n d) * a (ix3 0 d k) := by
  pointwise [k0_pay35, k0_pay33]

theorem zero1_apply (p : Fin 3) (j : Fin 32) : (k0_pay36 (F := Ideal) (ix3 p 0 j) : EReal) = 0 := by pointwise [k0_pay36]
theorem zero2_apply (p : Fin 3) (j : Fin 32) : (k0_pay37 (F := Ideal) (ix3 p 0 j) : EReal) = 0 := by pointwise [k0_pay37]

/-! ## The loss of the last point -/

/-- A score: the query's product with a row of the sums, over the number of nodes. -/
def scoreOf (q : Vec Ideal S1x32 .f32) (T : Vec Ideal S1x1x32 .f32) : EReal :=
  Ideal.div (∑ j : Fin 32, T (ix3 0 0 j) * q (ix2 0 j)) (Ideal.ofBits .f32 0x45800000#32)

theorem score3 (q T) : (k0_pay3 (F := Ideal) q T : EReal) = scoreOf q T := by
  pointwise [k0_pay3, k0_pay2]; rw [Fin.sum_univ_one]; rfl
theorem score4 (q T) : (k0_pay4 (F := Ideal) q T : EReal) = scoreOf q T := by
  pointwise [k0_pay4, k0_pay2]; rw [Fin.sum_univ_one]; rfl
theorem score5 (q T) : (k0_pay5 (F := Ideal) q T : EReal) = scoreOf q T := by
  pointwise [k0_pay5, k0_pay2]; rw [Fin.sum_univ_one]; rfl
theorem score6 (q T) : (k0_pay6 (F := Ideal) q T : EReal) = scoreOf q T := by
  pointwise [k0_pay6, k0_pay2]; rw [Fin.sum_univ_one]; rfl
theorem score7 (q T) : (k0_pay7 (F := Ideal) (k0_pay2 q) T : EReal) = scoreOf q T := by
  pointwise [k0_pay7, k0_pay2]; rw [Fin.sum_univ_one]; rfl
theorem score8 (q T) : (k0_pay8 (F := Ideal) (k0_pay2 q) T : EReal) = scoreOf q T := by
  pointwise [k0_pay8, k0_pay2]; rw [Fin.sum_univ_one]; rfl

variable (w : Fin 3 → EReal)

theorem soft14 : (k0_pay14 (F := Ideal) (w 0) (w 1) (w 2) : EReal) = Model.soft w 0 := by
  unfold Model.soft; rw [Fin.sum_univ_three]; rfl
theorem soft15 : (k0_pay15 (F := Ideal) (w 0) (w 1) (w 2) : EReal) = Model.soft w 1 := by
  unfold Model.soft; rw [Fin.sum_univ_three]; rfl
theorem soft16 : (k0_pay16 (F := Ideal) (w 0) (w 1) (w 2) : EReal) = Model.soft w 2 := by
  unfold Model.soft; rw [Fin.sum_univ_three]; rfl

theorem soft22 (q T1 T2) (e1 : w 1 = scoreOf q T1) (e2 : w 2 = scoreOf q T2) : (k0_pay22 (F := Ideal) (k0_pay2 q) (w 0) T1 T2 : EReal) = Model.soft w 0 := by
  rw [← soft14, e1, e2, ← score7, ← score8]; rfl
theorem soft23 (q T1 T2) (e1 : w 1 = scoreOf q T1) (e2 : w 2 = scoreOf q T2) : (k0_pay23 (F := Ideal) (k0_pay2 q) (w 0) T1 T2 : EReal) = Model.soft w 1 := by
  rw [← soft15, e1, e2, ← score7, ← score8]; rfl
theorem soft24 (q T1 T2) (e1 : w 1 = scoreOf q T1) (e2 : w 2 = scoreOf q T2) : (k0_pay24 (F := Ideal) (k0_pay2 q) (w 0) T1 T2 : EReal) = Model.soft w 2 := by
  rw [← soft16, e1, e2, ← score7, ← score8]; rfl

/-- The readout from the views' masked sums. -/
def readOf (a b c : EReal) (u : Vec Ideal S1x4096 .f32) (f g h : Vec Ideal S1x4096x64 .bf16) (k : Fin 64) : EReal :=
  Ideal.logistic (Ideal.div
    (a * ∑ n, u (ix2 0 n) * f (ix3 0 n k) + b * ∑ n, u (ix2 0 n) * g (ix3 0 n k) + c * ∑ n, u (ix2 0 n) * h (ix3 0 n k))
    (∑ n, u (ix2 0 n)))

theorem disc_hi (a b c : EReal) (u f g h D) (k : Fin 64) : (k0_pay27 (F := Ideal) a b c u (k0_pay26 u) f g h D (ix2 k 0) : EReal)
    = ∑ j, readOf a b c u f g h j * D (ix2 j k) := by
  unfold readOf
  pointwise [k0_pay27, k0_pay26]
  simp only [Fin.sum_univ_one]

theorem disc_lo (a b c : EReal) (u f g h D) (k : Fin 64) : (k0_pay27 (F := Ideal) a b c u (k0_pay26 u) f g h D (ix2 k 1) : EReal)
    = (∑ j, readOf a b c u f g h j * D (ix2 j k)) - ∑ j, readOf a b c u f g h j * D (ix2 j k) := by
  unfold readOf
  pointwise [k0_pay27, k0_pay26]
  simp only [Fin.sum_univ_one]

/-- Row `k`, column `l` of an array of 32 rows of 128, as a position of 4096. -/
def flat (k : Fin 32) (l : Fin 128) : Fin 4096 := ⟨k.val * 128 + l.val, by omega⟩

/-- The weighted sum of the views' products with a column. -/
def mix (a b c : EReal) (f g h : Vec Ideal S1x4096x64 .bf16) (n : Fin 4096) (C : Fin 64 → EReal) : EReal :=
  a * ∑ k, f (ix3 0 n k) * C k + b * ∑ k, g (ix3 0 n k) * C k + c * ∑ k, h (ix3 0 n k) * C k

theorem logit30 (a b c : EReal) (d : Vec Ideal S1x1 .f32) (C : FVec Ideal S64x2 .bf16) (u D) (f g h : Vec Ideal S1x4096x64 .bf16) (s) (k : Fin 32) (l : Fin 128)
    (hC : C = k0_pay27 (F := Ideal) a b c u (k0_pay26 u) f g h D) :
    (k0_pay30 b c (k0_pay25 d) C (k0_pay28 a b c u (k0_pay26 u) f g h D f) (k0_pay29 g) (constant S4096x2 .f32 0x00000000#32) h s (ix2 k l) : EReal)
    = mix a b c f g h (flat k l) (fun k => C (ix2 k 0)) + mix a b c f g h (flat k l) (fun k => C (ix2 k 1)) + d (ix2 0 0) + s (ix2 k l) := by
  unfold mix k0_pay28
  rw [← hC]
  pointwise [k0_pay30, k0_pay25, k0_pay29]
  rfl

theorem logit31 (a b c : EReal) (d : Vec Ideal S1x1 .f32) (C : FVec Ideal S64x2 .bf16) (f g h : Vec Ideal S1x4096x64 .bf16) (k : Fin 32) (l : Fin 128) :
    (k0_pay31 a b c (k0_pay25 d) C f g h (ix2 k l) : EReal)
    = mix a b c f g h (flat k l) (fun k => C (ix2 k 0)) + mix a b c f g h (flat k l) (fun k => C (ix2 k 1)) + d (ix2 0 0) := by
  unfold mix
  pointwise [k0_pay31, k0_pay25]
  rfl

theorem total_apply (p n : FVec Ideal S32x128 .f32) (s l1 l2) : (k0_pay32 p n s l1 l2 (ix2 0 0) : EReal)
    = Ideal.div ((∑ k, ∑ l, Model.bce (p (ix2 k l)) (l1 (ix2 k l))) + ∑ k, ∑ l, Model.bce (n (ix2 k l) + s (ix2 k l)) (l2 (ix2 k l)))
      (Ideal.ofBits .f32 0x46000000#32) := by
  unfold Model.bce
  pointwise [k0_pay32]
  simp only [zero_sub]
  rfl

end Cert.KernelIdeal.Hand

end
-- ==== Proof.LossEq.lean ====
module

public import proofs.«01_k».proof.Proof.Pay

/-! The loss of the last point is the model's, from complete hidden states and sums and real arrays. -/

@[expose] public section

set_option maxRecDepth 16384

noncomputable section

namespace Cert.KernelIdeal.Hand

open Cert.KernelIdeal Cert.KernelIdeal.Gen
open Idealize.ShloMosaic Idealize.ShloMosaic.TcCoe
open Cert.Model (Args IsReal)
open scoped BigOperators

/-- The arrays the loss multiplies out are real. -/
structure Reals (g : Args) (h1 h2 : Fin 3 → Fin 4096 → Fin 64 → EReal) : Prop where
  h1 : ∀ i n k, IsReal (h1 i n k)
  h2 : ∀ i n k, IsReal (h2 i n k)
  q : ∀ j, IsReal (g.q j)
  D : ∀ k j, IsReal (g.D k j)

/-- What the last point finds: the model's small arrays in its windows, the hidden states and the sums of their features in its scratch. -/
structure Ready (g : Args) (h1 h2 : Fin 3 → Fin 4096 → Fin 64 → EReal) (x : Ins Ideal) (s : St Ideal) : Prop where
  v1 : ∀ i n k, (s.h1 (ix3 i n k) : EReal) = h1 i n k
  v2 : ∀ i n k, (s.h2 (ix3 i n k) : EReal) = h2 i n k
  t1 : ∀ i j, (s.t1 (ix3 i 0 j) : EReal) = ∑ n, Model.feat g h1 i n j
  t2 : ∀ i j, (s.t2 (ix3 i 0 j) : EReal) = ∑ n, Model.feat g h2 i n j
  u : ∀ n, (x.x9 (ix2 0 n) : EReal) = g.u n
  s1 : ∀ k l, (x.x10 (ix2 k l) : EReal) = g.s1 (flat k l)
  s2 : ∀ k l, (x.x11 (ix2 k l) : EReal) = g.s2 (flat k l)
  l1 : ∀ k l, (x.x12 (ix2 k l) : EReal) = g.l ⟨(flat k l).val, by omega⟩
  l2 : ∀ k l, (x.x13 (ix2 k l) : EReal) = g.l ⟨4096 + (flat k l).val, by omega⟩
  q : ∀ j, (x.x16 (ix2 0 j) : EReal) = g.q j
  D : ∀ k j, (x.x17 (ix2 j k) : EReal) = g.D k j
  bd : (x.x18 (ix2 0 0) : EReal) = g.bd

variable {g : Args} {h1 h2 : Fin 3 → Fin 4096 → Fin 64 → EReal} {x : Ins Ideal} {s : St Ideal}

/-- A score of complete sums is the model's. -/
theorem scoreOf_eq {h : Fin 3 → Fin 4096 → Fin 64 → EReal} {T : Vec Ideal S3x1x32 .f32} (hq : ∀ j, IsReal (g.q j))
    (q : Vec Ideal S1x32 .f32) (eq : ∀ j, (q (ix2 0 j) : EReal) = g.q j) (eT : ∀ i j, (T (ix3 i 0 j) : EReal) = ∑ n, Model.feat g h i n j)
    (p : ℕ) (hp) (e : p < 3) : scoreOf q (rowT T p hp) = Model.score g h ⟨p, e⟩ := by
  unfold scoreOf Model.score
  rw [← Model.query_sum (f := Model.feat g h ⟨p, e⟩) (fun n j => IsReal.tanh _) hq]
  refine congrArg (Ideal.div · _) (Finset.sum_congr rfl fun j _ => ?_)
  rw [rowT_apply T p hp e, eT, eq]

/-- The readout of complete hidden states is the model's. -/
theorem readOf_eq (R : Reals g h1 h2) (Y : Ready g h1 h2 x s) (j : Fin 64) :
    readOf (Model.soft (Model.score g h1) 0) (Model.soft (Model.score g h1) 1) (Model.soft (Model.score g h1) 2) x.x9
      (view s.h1 0 inb_S3x4096x64_S1x4096x64_0_0_0) (view s.h1 1 inb_S3x4096x64_S1x4096x64_1_0_0) (view s.h1 2 inb_S3x4096x64_S1x4096x64_2_0_0) j
      = Model.read g h1 j := by
  unfold readOf Model.read Model.agg
  simp only [view_apply s.h1 _ _ (show 0 < 3 by decide), view_apply s.h1 _ _ (show 1 < 3 by decide), view_apply s.h1 _ _ (show 2 < 3 by decide), Y.v1, Y.u]
  rw [← Model.readout_mean (u := g.u) (Model.soft_real (Model.score_real h1 R.q)) (fun i n => R.h1 i n j)]
  rfl

/-- The two columns' products are the model's logit: the second column is zero. -/
theorem mix_eq {h : Fin 3 → Fin 4096 → Fin 64 → EReal} {H : Vec Ideal S3x4096x64 .bf16} {c : Fin 64 → EReal} {C C' : Fin 64 → EReal}
    (hq : ∀ j, IsReal (g.q j)) (hh : ∀ i n k, IsReal (h i n k)) (hD : ∀ k j, IsReal (g.D k j)) (hc : ∀ j, IsReal (c j))
    (eH : ∀ i n k, (H (ix3 i n k) : EReal) = h i n k) (eC : ∀ k, C k = ∑ j, c j * g.D k j) (eC' : ∀ k, C' k = C k - C k) (n : Fin 4096) :
    mix (Model.soft (Model.score g h) 0) (Model.soft (Model.score g h) 1) (Model.soft (Model.score g h) 2)
        (view H 0 inb_S3x4096x64_S1x4096x64_0_0_0) (view H 1 inb_S3x4096x64_S1x4096x64_1_0_0) (view H 2 inb_S3x4096x64_S1x4096x64_2_0_0) n C
      + mix (Model.soft (Model.score g h) 0) (Model.soft (Model.score g h) 1) (Model.soft (Model.score g h) 2)
        (view H 0 inb_S3x4096x64_S1x4096x64_0_0_0) (view H 1 inb_S3x4096x64_S1x4096x64_1_0_0) (view H 2 inb_S3x4096x64_S1x4096x64_2_0_0) n C'
      = ∑ j, (∑ k, Model.agg g h n k * g.D k j) * c j := by
  have z : ∀ k, C' k = 0 := fun k => by
    rw [eC', eC]; exact (IsReal.sum fun j => (hc j).mul (hD k j)).sub_self
  unfold mix Model.agg
  simp only [z, mul_zero, Finset.sum_const_zero, add_zero, eC]
  simp only [view_apply H _ _ (show 0 < 3 by decide), view_apply H _ _ (show 1 < 3 by decide), view_apply H _ _ (show 2 < 3 by decide), eH]
  exact Model.logit_sum (Model.soft_real (Model.score_real h hq)) (fun i k => hh i n k) hD hc

/-- The loss of the last point. -/
theorem loss_model (R : Reals g h1 h2) (Y : Ready g h1 h2 x s) : (loss x s (ix2 0 0) : EReal) = Model.loss g h1 h2 := by
  have a0 : (k0_pay3 x.x16 (rowT s.t1 0 inb_S3x1x32_S1x1x32_0_0_0) : EReal) = Model.score g h1 0 := (score3 _ _).trans (scoreOf_eq R.q x.x16 Y.q Y.t1 0 _ (by decide))
  have a1 : (k0_pay4 x.x16 (rowT s.t1 1 inb_S3x1x32_S1x1x32_1_0_0) : EReal) = Model.score g h1 1 := (score4 _ _).trans (scoreOf_eq R.q x.x16 Y.q Y.t1 1 _ (by decide))
  have a2 : (k0_pay5 x.x16 (rowT s.t1 2 inb_S3x1x32_S1x1x32_2_0_0) : EReal) = Model.score g h1 2 := (score5 _ _).trans (scoreOf_eq R.q x.x16 Y.q Y.t1 2 _ (by decide))
  have b0 : (k0_pay6 x.x16 (rowT s.t2 0 inb_S3x1x32_S1x1x32_0_0_0) : EReal) = Model.score g h2 0 := (score6 _ _).trans (scoreOf_eq R.q x.x16 Y.q Y.t2 0 _ (by decide))
  have b1 : Model.score g h2 1 = scoreOf x.x16 (rowT s.t2 1 inb_S3x1x32_S1x1x32_1_0_0) := (scoreOf_eq R.q x.x16 Y.q Y.t2 1 _ (by decide)).symm
  have b2 : Model.score g h2 2 = scoreOf x.x16 (rowT s.t2 2 inb_S3x1x32_S1x1x32_2_0_0) := (scoreOf_eq R.q x.x16 Y.q Y.t2 2 _ (by decide)).symm
  have eC := fun k : Fin 64 => (disc_hi (Model.soft (Model.score g h1) 0) (Model.soft (Model.score g h1) 1) (Model.soft (Model.score g h1) 2) x.x9
    (view s.h1 0 inb_S3x4096x64_S1x4096x64_0_0_0) (view s.h1 1 inb_S3x4096x64_S1x4096x64_1_0_0) (view s.h1 2 inb_S3x4096x64_S1x4096x64_2_0_0) x.x17 k)
  have eC' := fun k : Fin 64 => (disc_lo (Model.soft (Model.score g h1) 0) (Model.soft (Model.score g h1) 1) (Model.soft (Model.score g h1) 2) x.x9
    (view s.h1 0 inb_S3x4096x64_S1x4096x64_0_0_0) (view s.h1 1 inb_S3x4096x64_S1x4096x64_1_0_0) (view s.h1 2 inb_S3x4096x64_S1x4096x64_2_0_0) x.x17 k)
  simp only [readOf_eq R Y, Y.D] at eC eC'
  have hc : ∀ j, IsReal (Model.read g h1 j) := fun j => IsReal.logistic _
  have eD := fun k => (eC' k).trans (congrArg₂ (· - ·) (eC k).symm (eC k).symm)
  unfold loss
  rw [total_apply, a0, a1, a2, b0, soft14 (Model.score g h1), soft15 (Model.score g h1), soft16 (Model.score g h1),
    soft22 (Model.score g h2) x.x16 _ _ b1 b2, soft23 (Model.score g h2) x.x16 _ _ b1 b2, soft24 (Model.score g h2) x.x16 _ _ b1 b2]
  unfold Model.loss
  refine congrArg (Ideal.div · _) (congrArg₂ (· + ·) ?_ ?_)
  · refine Eq.trans (Finset.sum_congr rfl fun k _ => Finset.sum_congr rfl fun l _ => ?_) (Fin.sum_univ_tiles 32 128 (by norm_num) _).symm
    rw [logit30 _ _ _ _ _ x.x9 x.x17 _ _ _ _ k l rfl, mix_eq R.q R.h1 R.D hc Y.v1 eC eD, Y.s1, Y.l1, Y.bd]
    rfl
  · refine Eq.trans (Finset.sum_congr rfl fun k _ => Finset.sum_congr rfl fun l _ => ?_) (Fin.sum_univ_tiles 32 128 (by norm_num) _).symm
    rw [logit31, mix_eq R.q R.h2 R.D hc Y.v2 eC eD, Y.s2, Y.l2, Y.bd]
    rfl

end Cert.KernelIdeal.Hand

end
-- ==== Proof.Index.lean ====
module

public import proofs.«01_k».proof.Proof.Arr
public import proofs.«01_k».proof.Proof.LossEq

/-! What the scratch buffers hold, in the model's terms: the hidden states and the sums of their attention features. -/

@[expose] public section

set_option maxRecDepth 16384

noncomputable section

namespace Cert.KernelIdeal.Hand

open Cert.KernelIdeal Cert.KernelIdeal.Gen
open Idealize.ShloMosaic Idealize.ShloMosaic.TcCoe
open Cert.Model (Args IsReal)
open scoped BigOperators

variable (m : (ℓ : Loc nD τ sig) → Buf (Elt Ideal) ℓ) (c : Dev nD) (t : Fin cfg0.N)

/-- A point's convolution, four column blocks at a time, is the model's. -/
theorem four_eq {f : Vec Ideal S4096x64 .bf16} {Z : Fin 4096 → Fin 128 → EReal}
    (hf : ∀ n k, (f (ix2 n k) : EReal) = ∑ d, (kargs m c).W (vw t) d k * Z n d) (r : Fin 1024) (k : Fin 64) :
    four (ins m c t) f r k = Model.gcn (kargs m c) Z (vw t) (row t r) k := by
  unfold four Model.gcn
  simp only [ins_bias, (ins_adj m c t _ _).1, (ins_adj m c t _ _).2.1, (ins_adj m c t _ _).2.2.1, (ins_adj m c t _ _).2.2.2, hf]
  rw [Fin.sum_univ_tiles 4 1024 rfl, Fin.sum_univ_four, add_comm _ ((kargs m c).b (vw t) k)]
  simp only [← add_assoc]
  rfl

/-- Both feature matrices of a point are the model's. -/
theorem f1_eq (n : Fin 4096) (k : Fin 64) : (f1At m c t (ix2 n k) : EReal) = ∑ d, (kargs m c).W (vw t) d k * (kargs m c).X n d := by
  have e : vw (head t) = vw t := Fin.ext (by show t.val / 4 * 4 / 4 = t.val / 4; omega)
  unfold f1At
  rw [feat1_apply]
  refine Finset.sum_congr rfl fun d _ => ?_
  rw [(ins_feat m c _ n d).1, ins_weight, e, mul_comm]

theorem f2_eq (n : Fin 4096) (k : Fin 64) : (f2At m c t (ix2 n k) : EReal) = ∑ d, (kargs m c).W (vw t) d k * (kargs m c).Y n d := by
  have e : vw (head t) = vw t := Fin.ext (by show t.val / 4 * 4 / 4 = t.val / 4; omega)
  unfold f2At
  rw [feat2_apply]
  refine Finset.sum_congr rfl fun d _ => ?_
  rw [(ins_feat m c _ n d).2, ins_weight, e, mul_comm]

/-- The activation of the model's convolution is its hidden state. -/
theorem act_eq {f : Vec Ideal S4096x64 .bf16} {Z : Fin 4096 → Fin 128 → EReal}
    (hf : ∀ n k, (f (ix2 n k) : EReal) = ∑ d, (kargs m c).W (vw t) d k * Z n d) (r : Fin 1024) (k : Fin 64) :
    act ((ins m c t).x8 (ix3 0 0 k)) (four (ins m c t) f r k) = Model.hid (kargs m c) Z (vw t) (row t r) k := by
  rw [four_eq m c t hf, ins_slope]; rfl

/-- The point that stores row `n` of view `i`. -/
def at_ (i : Fin 3) (n : Fin 4096) : Fin cfg0.N := pt (4 * i.val + n.val / 1024) (by omega)

theorem vw_at (i : Fin 3) (n : Fin 4096) : vw (at_ i n) = i := Fin.ext (by show (4 * i.val + n.val / 1024) / 4 = i.val; omega)

theorem row_at (i : Fin 3) (n : Fin 4096) : row (at_ i n) ⟨n.val % 1024, Nat.mod_lt _ (by decide)⟩ = n :=
  Fin.ext (by show (4 * i.val + n.val / 1024) % 4 * 1024 + n.val % 1024 = n.val; omega)

theorem within_at (i : Fin 3) (n : Fin 4096) (k : Fin 64) :
    within (ix3 i n k) = ix3 0 ⟨n.val % 1024, Nat.mod_lt _ (by decide)⟩ k := by
  funext a
  match a with
  | ⟨0, _⟩ => rfl
  | ⟨1, _⟩ => rfl
  | ⟨2, _⟩ => rfl

/-- The complete hidden states are the model's. -/
theorem H1_eq (i : Fin 3) (n : Fin 4096) (k : Fin 64) : (H1 m c (ix3 i n k) : EReal) = Model.hid (kargs m c) (kargs m c).X i n k := by
  show rows1 m c (at_ i n) (within (ix3 i n k)) = _
  rw [within_at]
  refine (rows1_apply _ _ _ _).trans ((act_eq m c _ (f1_eq m c _) _ _).trans ?_)
  rw [vw_at, row_at]

theorem H2_eq (i : Fin 3) (n : Fin 4096) (k : Fin 64) : (H2 m c (ix3 i n k) : EReal) = Model.hid (kargs m c) (kargs m c).Y i n k := by
  show rows2 m c (at_ i n) (within (ix3 i n k)) = _
  rw [within_at]
  refine (rows2_apply _ _ _ _).trans ((act_eq m c _ (f2_eq m c _) _ _).trans ?_)
  rw [vw_at, row_at]

/-- A point's attention features are the model's. -/
theorem feats_eq {f : Vec Ideal S4096x64 .bf16} {Z : Fin 4096 → Fin 128 → EReal}
    (hf : ∀ n k, (f (ix2 n k) : EReal) = ∑ d, (kargs m c).W (vw t) d k * Z n d) (j : Fin 32) :
    feats (ins m c t) (fun r k => act ((ins m c t).x8 (ix3 0 0 k)) (four (ins m c t) f r k)) j
      = ∑ r, Model.feat (kargs m c) (Model.hid (kargs m c) Z) (vw t) (row t r) j := by
  unfold feats Model.feat
  simp only [act_eq m c t hf, ins_att, ins_attBias]

/-- The rows a view's points hold are all its rows. -/
theorem rows_sum (G : Fin 4096 → EReal) : ∑ s : Fin 4, ∑ r : Fin 1024, G ⟨s.val * 1024 + r.val, by omega⟩ = ∑ n, G n :=
  (Fin.sum_univ_tiles 4 1024 rfl G).symm

/-- Sums that start from zero, and to whose row each point adds the features of its rows, end with every row's features. -/
theorem sums_eq (T : ℕ → Vec Ideal S3x1x32 .f32) (G : Fin 3 → Fin 4096 → Fin 32 → EReal) (h0 : ∀ p j, (T 0 (ix3 p 0 j) : EReal) = 0)
    (hs : ∀ n (h : n < 12), ∃ R : Vec Ideal S1x1x32 .f32, T (n + 1) = VecWindow.put (T n) (k0_off2 (grid0.coords (pt n h))) S1x1x32.size R
      ∧ ∀ j, (R (ix3 0 0 j) : EReal) = T n (ix3 (vw (pt n h)) 0 j) + ∑ r, G (vw (pt n h)) (row (pt n h) r) j)
    (p : Fin 3) (j : Fin 32) : (T 12 (ix3 p 0 j) : EReal) = ∑ n, G p n j := by
  have key : ∀ n, n ≤ 12 → (T n (ix3 p 0 j) : EReal)
      = ∑ s ∈ Finset.range n, if s / 4 = p.val then ∑ r : Fin 1024, G p ⟨s % 4 * 1024 + r.val, by omega⟩ j else 0 := by
    intro n
    induction n with
    | zero => intro _; rw [h0]; rfl
    | succ n ih =>
      intro hn
      obtain ⟨R, eT, eR⟩ := hs n hn
      rw [Finset.sum_range_succ, ← ih (Nat.le_of_succ_le hn), eT, off2_eq]
      unfold VecWindow.put
      by_cases hp : n / 4 = p.val
      · have hv : vw (pt n hn) = p := Fin.ext hp
        have hin : ∀ a : Fin 3, (![(pt n hn).val / 4, 0, 0] : Fin 3 → ℕ) a ≤ ((ix3 p 0 j : S3x1x32.Idx) a).val
            ∧ ((ix3 p 0 j : S3x1x32.Idx) a).val < (![(pt n hn).val / 4, 0, 0] : Fin 3 → ℕ) a + S1x1x32.size a := by
          intro a
          match a with
          | ⟨0, _⟩ => show n / 4 ≤ p.val ∧ p.val < n / 4 + 1; omega
          | ⟨1, _⟩ => show 0 ≤ 0 ∧ 0 < 0 + 1; omega
          | ⟨2, _⟩ => show 0 ≤ j.val ∧ j.val < 0 + 32; omega
        rw [dif_pos hin, if_pos hp]
        rw [hv] at eR
        refine Eq.trans (congrArg R (funext fun a => Fin.ext ?_)) (eR j)
        match a with
        | ⟨0, _⟩ => show p.val - n / 4 = 0; omega
        | ⟨1, _⟩ => rfl
        | ⟨2, _⟩ => rfl
      · rw [if_neg hp, add_zero, dif_neg]
        intro hall
        have a0 : n / 4 ≤ p.val ∧ p.val < n / 4 + 1 := hall 0
        omega
  rw [key 12 le_rfl, ← rows_sum, Fin.sum_univ_four]
  match p with
  | ⟨0, _⟩ => simp [Finset.sum_range_succ]
  | ⟨1, _⟩ => simp [Finset.sum_range_succ]
  | ⟨2, _⟩ => simp [Finset.sum_range_succ]

/-- The row of the sums a point adds to, read through its window. -/
theorem window_off2 (T : Vec Ideal S3x1x32 .f32) (j : Fin 32) :
    VecWindow.window T (k0_off2 (grid0.coords t)) S1x1x32.size (k0_off2_inb (grid0.coords t)) (ix3 0 0 j) = T (ix3 (vw t) 0 j) :=
  window_apply T _ _ _ _ _ fun a => by
    rw [off2_eq]
    match a with
    | ⟨0, _⟩ => rfl
    | ⟨1, _⟩ => rfl
    | ⟨2, _⟩ => exact (Nat.zero_add _).symm

/-- The complete sums are the model's. -/
theorem T1_eq (p : Fin 3) (j : Fin 32) : (T1 m c 12 (ix3 p 0 j) : EReal)
    = ∑ n, Model.feat (kargs m c) (Model.hid (kargs m c) (kargs m c).X) p n j :=
  sums_eq (T1 m c) _ zero1_apply (fun n h => ⟨sum1 m c (pt n h) (T1 m c n), by rw [T1, dif_pos h], fun j => by
    unfold sum1
    rw [sum1_apply, window_off2, feats_eq m c _ (f1_eq m c _)]⟩) p j

theorem T2_eq (p : Fin 3) (j : Fin 32) : (T2 m c 12 (ix3 p 0 j) : EReal)
    = ∑ n, Model.feat (kargs m c) (Model.hid (kargs m c) (kargs m c).Y) p n j :=
  sums_eq (T2 m c) _ zero2_apply (fun n h => ⟨sum2 m c (pt n h) (T2 m c n), by rw [T2, dif_pos h], fun j => by
    unfold sum2
    rw [sum2_apply, window_off2, feats_eq m c _ (f2_eq m c _)]⟩) p j

/-- The last point finds everything the loss needs. -/
theorem ready : Ready (kargs m c) (Model.hid (kargs m c) (kargs m c).X) (Model.hid (kargs m c) (kargs m c).Y) (ins m c t) (fin m c t) where
  v1 := H1_eq m c
  v2 := H2_eq m c
  t1 := T1_eq m c
  t2 := T2_eq m c
  u := ins_mask m c t
  s1 k l := (ins_rows m c k l t).1
  s2 k l := (ins_rows m c k l t).2.1
  l1 k l := (ins_rows m c k l t).2.2.1
  l2 k l := (ins_rows m c k l t).2.2.2
  q := ins_query m c t
  D := ins_disc m c t
  bd := ins_discBias m c t

/-- The precondition: the arrays whose products and quotients the loss regroups are real. -/
structure Finite (g : Args) : Prop where
  X : ∀ n d, IsReal (g.X n d)
  Y : ∀ n d, IsReal (g.Y n d)
  A : ∀ i n k, IsReal (g.A i n k)
  W : ∀ i d k, IsReal (g.W i d k)
  b : ∀ i k, IsReal (g.b i k)
  a : ∀ i, IsReal (g.a i)
  q : ∀ j, IsReal (g.q j)
  D : ∀ k j, IsReal (g.D k j)

/-- From real arrays the last point's loss is the model's. -/
theorem loss_fin (R : Finite (kargs m c)) : (loss (ins m c t) (fin m c t) (ix2 0 0) : EReal)
    = Model.loss (kargs m c) (Model.hid (kargs m c) (kargs m c).X) (Model.hid (kargs m c) (kargs m c).Y) :=
  loss_model ⟨Model.hid_real R.X R.A R.W R.b R.a, Model.hid_real R.Y R.A R.W R.b R.a, R.q, R.D⟩ (ready m c t)

end Cert.KernelIdeal.Hand

end
-- ==== Proof.Final.lean ====
module

public import proofs.«01_k».proof.Proof.Launch
public import proofs.«01_k».proof.Proof.Index

/-! What the two results hold after the run, in the model's terms. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Cert.Model (Args IsReal)

variable (m : (ℓ : Loc nD τ sig) → Buf (Elt Ideal) ℓ) (ρ : Dev nD → PrngReg) (c : Dev nD)

/-- The blocks of the two results. -/
theorem result_idx : ∀ t : Fin cfg0.N, win0_19.index t = ![t.val / 4, t.val % 4, 0] ∧ win0_20.index t = ![0, 0] :=
  (by decide +kernel : ∀ t : Fin grid0.N, _)

/-- The first hidden states, as the second result holds them. -/
def states : Buf (Elt Ideal) ((c : Thread nD τ).loc main_v13_0) :=
  fun z : S3x4096x64.Idx => Model.hid (kargs m c) (kargs m c).X (z 0) (z 1) (z 2)

/-- A point's block of the second result is its rows of the hidden states. -/
theorem blk_eq (t : Fin cfg0.N) (r : Fin 1024) (k : Fin 64) :
    (blk (ins m c t) (f1At m c t) (ix3 0 r k) : EReal) = Model.hid (kargs m c) (kargs m c).X (vw t) (row t r) k :=
  (blk_apply _ _ _ _).trans (act_eq m c t (f1_eq m c t) r k)

theorem blk_at (t : Fin cfg0.N) (y : S1x1024x64.Idx) :
    (blk (ins m c t) (f1At m c t) y : EReal) = states m c (ix3 (vw t) (row t (y 1)) (y 2)) := by
  refine Eq.trans (congrArg (blk (ins m c t) (f1At m c t)) (funext fun a => ?_)) (blk_eq m c t (y 1) (y 2))
  match a with
  | ⟨0, _⟩ => exact Subsingleton.elim (α := Fin 1) _ _
  | ⟨1, _⟩ => rfl
  | ⟨2, _⟩ => rfl

/-- The second result ends holding the hidden states. -/
theorem final_states : (dats m 0 c).arrAt 19 cfg0.N = states m c := by
  refine (dats m 0 c).arrAt_eq_of_covers 19 _ (by decide +kernel) fun t _ y => ?_
  blk_simp
  rw [after_19]
  refine (blk_at m c t y).trans ?_
  blk_ext [vw, row, result_idx t]

/-- The last point. -/
abbrev final : Fin cfg0.N := pt 11 (by decide)

/-- The one-element array behind the first result ends holding the last point's loss. -/
theorem final_loss : (dats m 0 c).arrAt 20 cfg0.N = loss (ins m c final) (fin m c final) := by
  refine (dats m 0 c).arrAt_eq_of_covers 20 _ (by decide +kernel) fun t hf y => ?_
  have et : t = final := Fin.ext (by
    have h := (flush0_20 t).mp hf
    have ht : t.val < 12 := Nat.lt_of_lt_of_eq t.isLt N_0
    show t.val = 11; omega)
  blk_simp
  rw [after_20, et]
  blk_ext [result_idx final]

/-- The array behind the first result, as the last line finds it. -/
theorem array_20 : Pipeline.withArrays (cfgs 0).spec c (V0 m c) (fun w => (dats m 0 c).arrAt w (cfgs 0).N) (Proc.devRef .tc main_v13_1)
    = loss (ins m c final) (fin m c final) :=
  ((dats m 0 c).withArrays_arrAt launch₀0.sharedIn (V0 m c) (A_eq m c) 20).trans (final_loss m c)

/-- The first result is the one element of the loss. -/
theorem tail_eq (j : S_.Idx) : Pipeline.afterTail₀ cfgs (dats m) 0 (V0 m) [hostOps1] c main_v14 j
    = loss (ins m c final) (fin m c final) (ix2 0 0) := by
  unfold Pipeline.afterTail₀ hostOps1
  rw [List.flatten_cons, List.flatten_nil, List.append_nil]
  after_results
  rw [array_20]
  show shapeCast S_ (loss (ins m c final) (fin m c final)) shapeCasts_S1x1_S_ j = _
  pointwise

/-- Every run ends with the model's loss, from real arrays, and with the model's hidden states, and leaves the arguments. -/
theorem run_model (R : ∀ c, Finite (kargs m c)) : θ_run defs (onTc (τ := τ) (main (F := Ideal))) ⟨m, fun _ => 0, ρ⟩ (fun r => ∀ c : Dev nD,
    r.2.mem ((c.tc : Thread nD τ).loc main_v14)
        = (fun _ => Model.loss (kargs m c) (Model.hid (kargs m c) (kargs m c).X) (Model.hid (kargs m c) (kargs m c).Y))
      ∧ r.2.mem ((c.tc : Thread nD τ).loc main_v13_0) = states m c) :=
  (θ_run defs _ _).mono (fun r h c =>
    ⟨((h c).2 main_v14 (by decide)).trans (funext fun j => (tail_eq m c j).trans (loss_fin m c final (R c))),
      ((h c).1 19).trans (final_states m c)⟩) (run_post m ρ)

end Cert.KernelIdeal.Hand

end
-- ==== Proof.Pre.lean ====
module

public import proofs.«01_k».proof.Proof.Index
public import proofs.«01_k».proof.Defs

/-! The precondition read at the arrays: every element of the eight arrays it names is a real number. -/

@[expose] public section

set_option maxRecDepth 16384

noncomputable section

namespace Cert.KernelIdeal.Hand

open Cert.KernelIdeal
open Idealize.ShloMosaic Idealize.ShloMosaic.TcCoe
open Cert.Model (Args IsReal)

/-- The shape facts the precondition's own operations take. -/
theorem pre_facts : Cert.Pre_finite.Facts where
  bcast_S_S1x4096x128 := by decide
  bcast_S_S3x1x4096x4096 := by decide
  bcast_S_S3x128x64 := by decide
  bcast_S_S3x64 := by decide
  bcast_S_S3 := by decide
  bcast_S_S32 := by decide
  bcast_S_S64x64 := by decide

/-- A number below infinity in size is real. -/
theorem real_of_lt {x : EReal} (h : Ideal.cmp .olt (max x (-x)) (Ideal.ofBits .f32 0x7F800000#32) = 1#1) : IsReal x := by
  have et : Ideal.ofBits .f32 0x7F800000#32 = ⊤ := by simp [Ideal.ofBits, Ideal.ieee]
  rw [et] at h
  have hl : max x (-x) < ⊤ := by
    by_contra hn
    have hz : Ideal.cmp .olt (max x (-x)) ⊤ = 0#1 := by simp [Ideal.cmp, hn]
    rw [hz] at h
    exact absurd h (by decide)
  induction x with
  | bot => simp at hl
  | top => simp at hl
  | coe r => exact ⟨r, rfl⟩

/-- An array every element of which is below infinity in size holds real numbers. -/
theorem real_of_test {s : Shape} (x : FVec Ideal s .f32) (h : Shape.BroadcastsInDim ⟨0, ![]⟩ s (![] : Fin 0 → Fin s.rank))
    (e : cmpf .olt (Host.absf x) (broadcastInDim s ![] h (constant (F := Ideal) ⟨0, ![]⟩ .f32 0x7F800000#32)) = fun _ => 1#1) (i : s.Idx) :
    IsReal (x i) :=
  real_of_lt (congrFun e i)

variable (m : (ℓ : Loc nD τ sig) → Buf (Elt Ideal) ℓ)

/-- The precondition makes the named arrays real. -/
theorem finite_of_pre (P : Pre_KernelIdeal_finite (hPre_finite := pre_facts) m) (c : Dev nD) : Finite (kargs m c) :=
  have p := P c
  { X := fun n d => real_of_test _ _ p.1 (ix3 0 n d)
    Y := fun n d => real_of_test _ _ p.2.1 (ix3 0 n d)
    A := fun i n k => real_of_test _ _ p.2.2.1 (ix4 i 0 n k)
    W := fun i d k => real_of_test _ _ p.2.2.2.1 (ix3 i d k)
    b := fun i k => real_of_test _ _ p.2.2.2.2.1 (ix2 i k)
    a := fun i => real_of_test _ _ p.2.2.2.2.2.1 (ix1 i)
    q := fun j => real_of_test _ _ p.2.2.2.2.2.2.1 (ix1 j)
    D := fun k j => real_of_test _ _ p.2.2.2.2.2.2.2 (ix2 k j) }

end Cert.KernelIdeal.Hand

end
-- ==== Proof.Ref.lean ====
module

public import proofs.«01_k».proof.Proof.Model
public import proofs.«01_k».proof.Proof.Gen.ReferenceIdeal.Run
public import Idealize.ShloMosaic.Lib.Tactic.CleanTypes

/-! The reference's results, read by coordinates, are the model's. -/

@[expose] public section

set_option maxRecDepth 16384

noncomputable section

namespace Cert.Ref

open Idealize.ShloMosaic Idealize.ShloMosaic.TcCoe Cert.ReferenceIdeal Cert.ReferenceIdeal.Gen Cert.ReferenceIdeal.Value
open Cert.Model (Args)

variable (V : Valuation τ sig (Elt Ideal))

/-- The arrays the reference reads, by their coordinates. -/
def args : Args where
  X n d := V (Proc.tc.devRef main_arg0) (ix3 0 n d)
  Y n d := V (Proc.tc.devRef main_arg1) (ix3 0 n d)
  l n := V (Proc.tc.devRef main_arg2) (ix2 0 n)
  A i n m := V (Proc.tc.devRef main_arg3) (ix4 i 0 n m)
  u n := V (Proc.tc.devRef main_arg5) (ix2 0 n)
  s1 n := V (Proc.tc.devRef main_arg6) (ix2 0 n)
  s2 n := V (Proc.tc.devRef main_arg7) (ix2 0 n)
  W i d k := V (Proc.tc.devRef main_arg8) (ix3 i d k)
  b i k := V (Proc.tc.devRef main_arg9) (ix2 i k)
  a i := V (Proc.tc.devRef main_arg10) (ix1 i)
  Wa k j := V (Proc.tc.devRef main_arg11) (ix2 k j)
  ba j := V (Proc.tc.devRef main_arg12) (ix1 j)
  q j := V (Proc.tc.devRef main_arg13) (ix1 j)
  D k j := V (Proc.tc.devRef main_arg14) (ix2 k j)
  bd := V (Proc.tc.devRef main_arg15) ix0

/-- The first hidden states. -/
abbrev h1 : Fin 3 → Fin 4096 → Fin 64 → EReal := Model.hid (args V) (args V).X
/-- The second. -/
abbrev h2 : Fin 3 → Fin 4096 → Fin 64 → EReal := Model.hid (args V) (args V).Y

theorem v7 (i : Fin 3) (n : Fin 4096) (k : Fin 64) : (res_main_v7 V (ix3 i n k) : EReal) = Model.gcn (args V) (args V).X i n k := by
  pointwise [res_main_v7]; rfl

theorem v58 (i : Fin 3) (n : Fin 4096) (k : Fin 64) : (res_main_v58 V (ix3 i n k) : EReal) = Model.gcn (args V) (args V).Y i n k := by
  pointwise [res_main_v58]; rfl

theorem v13 (i : Fin 3) (n : Fin 4096) (k : Fin 64) : (res_main_v13 V (ix3 i n k) : EReal) = h1 V i n k := by
  pointwise [res_main_v13]; rw [v7]; rfl

theorem v64 (i : Fin 3) (n : Fin 4096) (k : Fin 64) : (res_main_v64 V (ix3 i n k) : EReal) = h2 V i n k := by
  pointwise [res_main_v64]; rw [v58]; rfl

theorem v22 (i : Fin 3) : (res_main_v22 V (ix1 i) : EReal) = Model.score (args V) (h1 V) i := by
  pointwise [res_main_v22]; simp only [v13]; rfl

theorem v73 (i : Fin 3) : (res_main_v73 V (ix1 i) : EReal) = Model.score (args V) (h2 V) i := by
  pointwise [res_main_v73]; simp only [v64]; rfl

theorem v28 (i : Fin 3) : (res_main_v28 V (ix1 i) : EReal)
    = Ideal.exp (Model.score (args V) (h1 V) i - Model.big (Model.score (args V) (h1 V))) := by
  unfold res_main_v28
  clean_types
  pointwise
  rw [Model.fold_max]
  simp only [v22]

theorem v79 (i : Fin 3) : (res_main_v79 V (ix1 i) : EReal)
    = Ideal.exp (Model.score (args V) (h2 V) i - Model.big (Model.score (args V) (h2 V))) := by
  unfold res_main_v79
  clean_types
  pointwise
  rw [Model.fold_max]
  simp only [v73]

theorem v36 (n : Fin 4096) (k : Fin 64) : (res_main_v36 V (ix2 n k) : EReal) = Model.agg (args V) (h1 V) n k := by
  pointwise [res_main_v36]; simp only [v28, v13]; rfl

theorem v50 (k : Fin 64) : (res_main_v50 V (ix1 k) : EReal) = Model.read (args V) (h1 V) k := by
  pointwise [res_main_v50]; simp only [v36]
  unfold Model.read Ideal.logistic
  rw [Fin.sum_univ_one]
  rfl

theorem v100 (k : Fin 8192) : (res_main_v100 V (ix2 0 k) : EReal)
    = if h : k.val < 4096 then Model.logit (args V) (h1 V) (Model.read (args V) (h1 V)) (args V).s1 ⟨k.val, h⟩
      else Model.logit (args V) (h2 V) (Model.read (args V) (h1 V)) (args V).s2 ⟨k.val - 4096, by omega⟩ := by
  pointwise [res_main_v100]
  split
  · simp only [v36, v50]; rfl
  · simp only [v50, v64, v79]; rfl

theorem v100_true (n : Fin 4096) : (res_main_v100 V (ix2 0 ⟨n.val, by omega⟩) : EReal)
    = Model.logit (args V) (h1 V) (Model.read (args V) (h1 V)) (args V).s1 n := by
  rw [v100, dif_pos n.isLt]

theorem v100_corrupt (n : Fin 4096) : (res_main_v100 V (ix2 0 ⟨4096 + n.val, by omega⟩) : EReal)
    = Model.logit (args V) (h2 V) (Model.read (args V) (h1 V)) (args V).s2 n := by
  rw [v100, dif_neg (by simp)]
  exact congrArg (Model.logit (args V) (h2 V) (Model.read (args V) (h1 V)) (args V).s2) (Fin.ext (Nat.add_sub_cancel_left _ _))

theorem v111 (j : S_.Idx) : (Host.divf (Host.reduceAdd (addf (subf (maximumf (res_main_v100 V) (broadcastInDim S1x8192 ![] bcast_S_S1x8192 (constant S_ .f32 0x00000000#32))) (mulf (res_main_v100 V) (V (Proc.devRef .tc main_arg2)))) (Host.log1p (Host.exp (Host.negf (Host.absf (res_main_v100 V)))))) (constant S_ .f32 0x00000000#32) reducesTo_S1x8192_S_d0_1 h_S_) (constant S_ .f32 0x46000000#32) j : EReal)
    = Model.loss (args V) (h1 V) (h2 V) := by
  clean_types
  pointwise
  rw [Fin.sum_univ_one, Fin.sum_univ_two_halves 4096 4096 rfl]
  unfold Model.loss Model.bce
  refine congrArg (Ideal.div · _) (congrArg₂ (· + ·) (Finset.sum_congr rfl fun n _ => ?_) (Finset.sum_congr rfl fun n _ => ?_))
  · rw [v100_true]; rfl
  · rw [v100_corrupt]; rfl

end Cert.Ref

end
-- ==== Proof.Value.lean ====
module

public import proofs.«01_k».proof.Proof.Final
public import proofs.«01_k».proof.Proof.Pre
public import proofs.«01_k».proof.Proof.Ref

/-! The value claim: from equal arguments the kernel and the reference end with equal results. -/

@[expose] public section

set_option maxRecDepth 16384

noncomputable section

namespace Cert.Agree

open Idealize.ShloMosaic Idealize.ShloMosaic.TcCoe Idealize.ShloMosaic.StableHlo Idealize.SL.Sem
open Cert.KernelIdeal.Hand

/-- The kernel's and the reference's arguments are the same arrays. -/
theorem value : Cert.algebraic_KernelIdeal_ReferenceIdeal_pre_finite (hKernelIdeal := Cert.KernelIdeal.Gen.facts)
    (hReferenceIdeal := Cert.ReferenceIdeal.Gen.facts) (hPre_finite := pre_facts) := by
  intro m g m' g' P h
  have ea : ∀ c : Dev Cert.KernelIdeal.nD, Ref.args (launchContents m' c) = kargs m c := fun c => by
    obtain ⟨h0, h1, h2, h3, h4, h5, h6, h7, h8, h9, h10, h11, h12, h13, h14, h15⟩ := h c
    unfold Ref.args kargs
    rw [Model.Args.mk.injEq]
    exact ⟨funext₂ fun _ _ => congrFun h0 _, funext₂ fun _ _ => congrFun h1 _, funext fun _ => congrFun h2 _,
      funext₃ fun _ _ _ => congrFun h3 _, funext fun _ => congrFun h5 _, funext fun _ => congrFun h6 _, funext fun _ => congrFun h7 _,
      funext₃ fun _ _ _ => congrFun h8 _, funext₂ fun _ _ => congrFun h9 _, funext fun _ => congrFun h10 _,
      funext₂ fun _ _ => congrFun h11 _, funext fun _ => congrFun h12 _, funext fun _ => congrFun h13 _,
      funext₂ fun _ _ => congrFun h14 _, congrFun h15 _⟩
  refine ⟨fun c _ => Model.loss (kargs m c) (Model.hid (kargs m c) (kargs m c).X) (Model.hid (kargs m c) (kargs m c).Y), fun c => states m c, ?_, ?_⟩
  · refine (θ_run Cert.KernelIdeal.defs _ _).mono (fun r hr c => ?_)
      (θ_run_and (run_model m g (finite_of_pre m P)) (Cert.KernelIdeal.Hand.frame m g))
    exact ⟨(hr.1 c).1, (hr.1 c).2, hr.2.1 c⟩
  · refine (θ_run Cert.ReferenceIdeal.defs _ _).mono (fun r hr c => ?_) (Cert.ReferenceIdeal.Value.run (F := Ideal) m' g')
    refine ⟨(hr c).1.trans (funext fun j => (Ref.v111 (launchContents m' c) j).trans ?_),
      (hr c).2.1.trans (funext fun z => ?_), (hr c).2.2⟩
    · unfold Ref.h1 Ref.h2
      rw [ea c]
    · have ez : z = ix3 (z 0) (z 1) (z 2) := funext fun a => match a with
        | ⟨0, _⟩ => rfl
        | ⟨1, _⟩ => rfl
        | ⟨2, _⟩ => rfl
      rw [ez]
      refine (Ref.v13 (launchContents m' c) _ _ _).trans ?_
      unfold Ref.h1
      rw [ea c]
      rfl

end Cert.Agree

end
-- ==== Proof.Same.lean ====
module

public import proofs.«01_k».proof.Proof.Gen.Kernel.Launch
public import proofs.«01_k».proof.Proof.Gen.KernelIdeal.Launch

/-! The program and its idealization are one text: what a run of the one guarantees, a run of the other does. -/

@[expose] public section

set_option maxRecDepth 16384
set_option maxHeartbeats 4000000

noncomputable section

namespace Cert.Same

open Idealize.ShloMosaic Idealize.ShloMosaic.TcCoe Idealize.SL.Sem

variable {F : FTy → Type} [FloatOps F]

/-- The two kernels' bodies are the same. -/
theorem defs0_eq : Cert.Kernel.defs₀ (F := F) = Cert.KernelIdeal.defs₀ (F := F) := by
  unfold Cert.Kernel.defs₀ Cert.KernelIdeal.defs₀
  congr 1
  funext l ts
  match l, ts with | 0, (t, s) => rfl

/-- The two host lines are the same. -/
theorem main_eq : Cert.Kernel.main (F := F) = Cert.KernelIdeal.main (F := F) := rfl

theorem defs_eq : Cert.Kernel.defs (F := F) = Cert.KernelIdeal.defs (F := F) :=
  congrArg (Pipeline.defs (Cert.KernelIdeal.pcfgs (F := F))) (defs0_eq (F := F))

/-- A guarantee of the idealization's runs, at any arithmetic, is one of the program's. -/
theorem run_eq (m : (ℓ : Loc Cert.Kernel.nD Cert.Kernel.τ Cert.Kernel.sig) → Buf (Elt F) ℓ) (ρ Q) :
    θ_run (Cert.KernelIdeal.defs (F := F)) (onTc (τ := Cert.KernelIdeal.τ) (Cert.KernelIdeal.main (F := F))) ⟨m, fun _ => 0, ρ⟩ Q →
    θ_run (Cert.Kernel.defs (F := F)) (onTc (τ := Cert.Kernel.τ) (Cert.Kernel.main (F := F))) ⟨m, fun _ => 0, ρ⟩ Q := fun h =>
  (congrArg₂ (fun d p => θ_run d (onTc (τ := Cert.KernelIdeal.τ) p) (⟨m, fun _ => 0, ρ⟩ : MemSt _ _ _ (Elt F)) Q)
    (defs_eq (F := F)) (main_eq (F := F))).mpr h

end Cert.Same

end
-- ==== Proof.lean ====
module

public import proofs.«01_k».proof.Defs
public import proofs.«01_k».proof.Proof.Value
public import proofs.«01_k».proof.Proof.Same

/-! The certificate: every claim of `Cert.Claim`. -/

@[expose] public section

noncomputable section

namespace Cert.Proof

open Idealize.ShloMosaic Idealize.SL.Sem

/-- The reference's runs leave the arguments, and it has no counter. -/
theorem reference_frame : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.KernelIdeal.Hand.pre_facts,
    fun m ρ _ => Cert.Same.run_eq m ρ _ (Cert.KernelIdeal.Hand.frame m ρ),
    fun m ρ _ => Cert.KernelIdeal.Hand.frame m ρ,
    fun m ρ _ => Cert.KernelIdeal.Hand.frame m ρ,
    reference_frame,
    fun m ρ _ => reference_frame m ρ trivial,
    trivial,
    Cert.Agree.value⟩

end Cert.Proof

end
